-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S256x4096 : Shape := ⟨2, ![256, 4096]⟩
abbrev S8 : Shape := ⟨1, ![8]⟩
abbrev S1 : Shape := ⟨1, ![1]⟩
abbrev S_ : Shape := ⟨0, ![]⟩
abbrev S1024x256 : Shape := ⟨2, ![1024, 256]⟩
abbrev S1024x384 : Shape := ⟨2, ![1024, 384]⟩
abbrev S1024x512 : Shape := ⟨2, ![1024, 512]⟩
abbrev S1024x640 : Shape := ⟨2, ![1024, 640]⟩
abbrev S1024x768 : Shape := ⟨2, ![1024, 768]⟩
abbrev S256x256 : Shape := ⟨2, ![256, 256]⟩
abbrev S256x384 : Shape := ⟨2, ![256, 384]⟩
abbrev S256x512 : Shape := ⟨2, ![256, 512]⟩
abbrev S256x640 : Shape := ⟨2, ![256, 640]⟩
abbrev S256x768 : Shape := ⟨2, ![256, 768]⟩

abbrev nBuf : Space → Nat
  | .hbm => 3
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .bf16⟩
  | .local _ .vmem, ⟨0, _⟩ => ⟨S1024x1024, .f32⟩
  | .local _ .vmem, ⟨1, _⟩ => ⟨S1024x4096, .f32⟩
  | .local _ .vmem, ⟨2, _⟩ => ⟨S1024x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_36 : BitVec 32 := 0#32
  let c1_i32_32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v44 : BitVec 32 := Scalar.subi c1_i32_32 v2
  let c2_i32_35 : BitVec 32 := 2#32
  let v46 : BitVec 32 := Scalar.muli v44 c2_i32_35
  let v47 : BitVec 32 := Scalar.addi c0_i32_36 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v48 : BitVec 32 := Scalar.muli v5 c1_i32_37
  let v49 : BitVec 32 := Scalar.addi v47 v48
  v49.toNat
def k0_dev2 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v50 : BitVec 32 := Scalar.muli v2 c2_i32_39
  let v51 : BitVec 32 := Scalar.addi c0_i32_40 v50
  let c1_i32_33 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v45 : BitVec 32 := Scalar.subi c1_i32_33 v5
  let c1_i32_41 : BitVec 32 := 1#32
  let v52 : BitVec 32 := Scalar.muli v45 c1_i32_41
  let v53 : BitVec 32 := Scalar.addi v51 v52
  v53.toNat
def k0_off1 (d0 : Dev nD) : Fin 2 → Nat :=
  let c0 : Index := 0#32
  let c2_i32_4 : BitVec 32 := 2#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_3 v2
  let v9 : BitVec 32 := Scalar.muli c2_i32_4 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.addi v9 v5
  let c256_i32_42 : BitVec 32 := 256#32
  let v54 : BitVec 32 := Scalar.muli v10 c256_i32_42
  let v55 : Index := Scalar.indexCast v54
  ![0, v55.toNat]
def k0_off2 (d0 : Dev nD) : Fin 2 → Nat :=
  let c0_44 : Index := 0#32
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c256_i32_43 : BitVec 32 := 256#32
  let v59 : BitVec 32 := Scalar.muli v7 c256_i32_43
  let v60 : Index := Scalar.indexCast v59
  ![0, v60.toNat]
def k0_dev3 (d0 : Dev nD) : Nat :=
  let c0_i32_76 : BitVec 32 := 0#32
  let c1_i32_72 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v94 : BitVec 32 := Scalar.subi c1_i32_72 v2
  let c2_i32_75 : BitVec 32 := 2#32
  let v95 : BitVec 32 := Scalar.muli v94 c2_i32_75
  let v96 : BitVec 32 := Scalar.addi c0_i32_76 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v97 : BitVec 32 := Scalar.muli v5 c1_i32_77
  let v98 : BitVec 32 := Scalar.addi v96 v97
  v98.toNat
def k0_dev4 (d0 : Dev nD) : Nat :=
  let c0_i32_86 : BitVec 32 := 0#32
  let c1_i32_82 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v105 : BitVec 32 := Scalar.subi c1_i32_82 v2
  let c2_i32_85 : BitVec 32 := 2#32
  let v106 : BitVec 32 := Scalar.muli v105 c2_i32_85
  let v107 : BitVec 32 := Scalar.addi c0_i32_86 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v108 : BitVec 32 := Scalar.muli v5 c1_i32_87
  let v109 : BitVec 32 := Scalar.addi v107 v108
  v109.toNat
def k0_dev5 (d0 : Dev nD) : Nat :=
  let c0_i32_109 : BitVec 32 := 0#32
  let c1_i32_105 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v131 : BitVec 32 := Scalar.subi c1_i32_105 v2
  let c2_i32_108 : BitVec 32 := 2#32
  let v132 : BitVec 32 := Scalar.muli v131 c2_i32_108
  let v133 : BitVec 32 := Scalar.addi c0_i32_109 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v134 : BitVec 32 := Scalar.muli v5 c1_i32_110
  let v135 : BitVec 32 := Scalar.addi v133 v134
  v135.toNat
def k0_dev6 (d0 : Dev nD) : Nat :=
  let c0_i32_132 : BitVec 32 := 0#32
  let c1_i32_128 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v157 : BitVec 32 := Scalar.subi c1_i32_128 v2
  let c2_i32_131 : BitVec 32 := 2#32
  let v158 : BitVec 32 := Scalar.muli v157 c2_i32_131
  let v159 : BitVec 32 := Scalar.addi c0_i32_132 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v160 : BitVec 32 := Scalar.muli v5 c1_i32_133
  let v161 : BitVec 32 := Scalar.addi v159 v160
  v161.toNat
def k0_dev7 (d0 : Dev nD) : Nat :=
  let c0_i32_155 : BitVec 32 := 0#32
  let c1_i32_151 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v183 : BitVec 32 := Scalar.subi c1_i32_151 v2
  let c2_i32_154 : BitVec 32 := 2#32
  let v184 : BitVec 32 := Scalar.muli v183 c2_i32_154
  let v185 : BitVec 32 := Scalar.addi c0_i32_155 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v186 : BitVec 32 := Scalar.muli v5 c1_i32_156
  let v187 : BitVec 32 := Scalar.addi v185 v186
  v187.toNat
def k0_dev8 (d0 : Dev nD) : Nat :=
  let c0_i32_178 : BitVec 32 := 0#32
  let c1_i32_174 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v209 : BitVec 32 := Scalar.subi c1_i32_174 v2
  let c2_i32_177 : BitVec 32 := 2#32
  let v210 : BitVec 32 := Scalar.muli v209 c2_i32_177
  let v211 : BitVec 32 := Scalar.addi c0_i32_178 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_179 : BitVec 32 := 1#32
  let v212 : BitVec 32 := Scalar.muli v5 c1_i32_179
  let v213 : BitVec 32 := Scalar.addi v211 v212
  v213.toNat
def k0_dev9 (d0 : Dev nD) : Nat :=
  let c0_i32_201 : BitVec 32 := 0#32
  let c1_i32_197 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v235 : BitVec 32 := Scalar.subi c1_i32_197 v2
  let c2_i32_200 : BitVec 32 := 2#32
  let v236 : BitVec 32 := Scalar.muli v235 c2_i32_200
  let v237 : BitVec 32 := Scalar.addi c0_i32_201 v236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v238 : BitVec 32 := Scalar.muli v5 c1_i32_202
  let v239 : BitVec 32 := Scalar.addi v237 v238
  v239.toNat
def k0_dev10 (d0 : Dev nD) : Nat :=
  let c0_i32_224 : BitVec 32 := 0#32
  let c1_i32_220 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v261 : BitVec 32 := Scalar.subi c1_i32_220 v2
  let c2_i32_223 : BitVec 32 := 2#32
  let v262 : BitVec 32 := Scalar.muli v261 c2_i32_223
  let v263 : BitVec 32 := Scalar.addi c0_i32_224 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_225 : BitVec 32 := 1#32
  let v264 : BitVec 32 := Scalar.muli v5 c1_i32_225
  let v265 : BitVec 32 := Scalar.addi v263 v264
  v265.toNat
def k0_dev11 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v291 : BitVec 32 := Scalar.muli v2 c2_i32_249
  let v292 : BitVec 32 := Scalar.addi c0_i32_250 v291
  let c1_i32_246 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v290 : BitVec 32 := Scalar.subi c1_i32_246 v5
  let c1_i32_251 : BitVec 32 := 1#32
  let v293 : BitVec 32 := Scalar.muli v290 c1_i32_251
  let v294 : BitVec 32 := Scalar.addi v292 v293
  v294.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_256 : BitVec 32 := 256#32
  let v301 : BitVec 32 := Scalar.muli v5 c256_i32_256
  let c0_i32_258 : BitVec 32 := 0#32
  ![v301.toNat, 0]
def k0_dev12 (d0 : Dev nD) : Nat :=
  let c0_i32_278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_277 : BitVec 32 := 2#32
  let v323 : BitVec 32 := Scalar.muli v2 c2_i32_277
  let v324 : BitVec 32 := Scalar.addi c0_i32_278 v323
  let c1_i32_274 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v322 : BitVec 32 := Scalar.subi c1_i32_274 v5
  let c1_i32_279 : BitVec 32 := 1#32
  let v325 : BitVec 32 := Scalar.muli v322 c1_i32_279
  let v326 : BitVec 32 := Scalar.addi v324 v325
  v326.toNat
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_284 : BitVec 32 := 256#32
  let v333 : BitVec 32 := Scalar.muli v5 c256_i32_284
  let c256_i32_286 : BitVec 32 := 256#32
  ![v333.toNat, 256]
def k0_dev13 (d0 : Dev nD) : Nat :=
  let c0_i32_306 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_305 : BitVec 32 := 2#32
  let v355 : BitVec 32 := Scalar.muli v2 c2_i32_305
  let v356 : BitVec 32 := Scalar.addi c0_i32_306 v355
  let c1_i32_302 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v354 : BitVec 32 := Scalar.subi c1_i32_302 v5
  let c1_i32_307 : BitVec 32 := 1#32
  let v357 : BitVec 32 := Scalar.muli v354 c1_i32_307
  let v358 : BitVec 32 := Scalar.addi v356 v357
  v358.toNat
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_312 : BitVec 32 := 256#32
  let v365 : BitVec 32 := Scalar.muli v5 c256_i32_312
  let c640_i32_314 : BitVec 32 := 640#32
  ![v365.toNat, 640]
def k0_dev14 (d0 : Dev nD) : Nat :=
  let c0_i32_334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_333 : BitVec 32 := 2#32
  let v387 : BitVec 32 := Scalar.muli v2 c2_i32_333
  let v388 : BitVec 32 := Scalar.addi c0_i32_334 v387
  let c1_i32_330 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v386 : BitVec 32 := Scalar.subi c1_i32_330 v5
  let c1_i32_335 : BitVec 32 := 1#32
  let v389 : BitVec 32 := Scalar.muli v386 c1_i32_335
  let v390 : BitVec 32 := Scalar.addi v388 v389
  v390.toNat
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_340 : BitVec 32 := 256#32
  let v397 : BitVec 32 := Scalar.muli v5 c256_i32_340
  let c1152_i32_342 : BitVec 32 := 1152#32
  ![v397.toNat, 1152]
def k0_dev15 (d0 : Dev nD) : Nat :=
  let c0_i32_362 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_361 : BitVec 32 := 2#32
  let v419 : BitVec 32 := Scalar.muli v2 c2_i32_361
  let v420 : BitVec 32 := Scalar.addi c0_i32_362 v419
  let c1_i32_358 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v418 : BitVec 32 := Scalar.subi c1_i32_358 v5
  let c1_i32_363 : BitVec 32 := 1#32
  let v421 : BitVec 32 := Scalar.muli v418 c1_i32_363
  let v422 : BitVec 32 := Scalar.addi v420 v421
  v422.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_368 : BitVec 32 := 256#32
  let v429 : BitVec 32 := Scalar.muli v5 c256_i32_368
  let c1792_i32_370 : BitVec 32 := 1792#32
  ![v429.toNat, 1792]
def k0_dev16 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v451 : BitVec 32 := Scalar.muli v2 c2_i32_389
  let v452 : BitVec 32 := Scalar.addi c0_i32_390 v451
  let c1_i32_386 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v450 : BitVec 32 := Scalar.subi c1_i32_386 v5
  let c1_i32_391 : BitVec 32 := 1#32
  let v453 : BitVec 32 := Scalar.muli v450 c1_i32_391
  let v454 : BitVec 32 := Scalar.addi v452 v453
  v454.toNat
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_396 : BitVec 32 := 256#32
  let v461 : BitVec 32 := Scalar.muli v5 c256_i32_396
  let c2560_i32_398 : BitVec 32 := 2560#32
  ![v461.toNat, 2560]
def k0_dev17 (d0 : Dev nD) : Nat :=
  let c0_i32_418 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_417 : BitVec 32 := 2#32
  let v483 : BitVec 32 := Scalar.muli v2 c2_i32_417
  let v484 : BitVec 32 := Scalar.addi c0_i32_418 v483
  let c1_i32_414 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v482 : BitVec 32 := Scalar.subi c1_i32_414 v5
  let c1_i32_419 : BitVec 32 := 1#32
  let v485 : BitVec 32 := Scalar.muli v482 c1_i32_419
  let v486 : BitVec 32 := Scalar.addi v484 v485
  v486.toNat
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_424 : BitVec 32 := 256#32
  let v493 : BitVec 32 := Scalar.muli v5 c256_i32_424
  let c3328_i32_426 : BitVec 32 := 3328#32
  ![v493.toNat, 3328]
def k0_dev18 (d0 : Dev nD) : Nat :=
  let c0_i32_446 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_445 : BitVec 32 := 2#32
  let v515 : BitVec 32 := Scalar.muli v2 c2_i32_445
  let v516 : BitVec 32 := Scalar.addi c0_i32_446 v515
  let c1_i32_442 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v514 : BitVec 32 := Scalar.subi c1_i32_442 v5
  let c1_i32_447 : BitVec 32 := 1#32
  let v517 : BitVec 32 := Scalar.muli v514 c1_i32_447
  let v518 : BitVec 32 := Scalar.addi v516 v517
  v518.toNat
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_452 : BitVec 32 := 256#32
  let v525 : BitVec 32 := Scalar.muli v5 c256_i32_452
  let c3840_i32_454 : BitVec 32 := 3840#32
  ![v525.toNat, 3840]
def k0_off11 (d0 : Dev nD) : Fin 2 → Nat :=
  let c1_i32_466 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v538 : BitVec 32 := Scalar.subi c1_i32_466 v5
  let c256_i32_467 : BitVec 32 := 256#32
  let v539 : BitVec 32 := Scalar.muli v538 c256_i32_467
  let c0_i32_469 : BitVec 32 := 0#32
  ![v539.toNat, 0]
def k0_off12 (d0 : Dev nD) : Fin 2 → Nat :=
  let c1_i32_481 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v552 : BitVec 32 := Scalar.subi c1_i32_481 v5
  let c256_i32_482 : BitVec 32 := 256#32
  let v553 : BitVec 32 := Scalar.muli v552 c256_i32_482
  let c256_i32_484 : BitVec 32 := 256#32
  ![v553.toNat, 256]
def k0_off13 (d0 : Dev nD) : Fin 2 → Nat :=
  let c1_i32_496 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v566 : BitVec 32 := Scalar.subi c1_i32_496 v5
  let c256_i32_497 : BitVec 32 := 256#32
  let v567 : BitVec 32 := Scalar.muli v566 c256_i32_497
  let c640_i32_499 : BitVec 32 := 640#32
  ![v567.toNat, 640]
def k0_off14 (d0 : Dev nD) : Fin 2 → Nat :=
  let c1_i32_511 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v580 : BitVec 32 := Scalar.subi c1_i32_511 v5
  let c256_i32_512 : BitVec 32 := 256#32
  let v581 : BitVec 32 := Scalar.muli v580 c256_i32_512
  let c1152_i32_514 : BitVec 32 := 1152#32
  ![v581.toNat, 1152]
def k0_off15 (d0 : Dev nD) : Fin 2 → Nat :=
  let c1_i32_526 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v594 : BitVec 32 := Scalar.subi c1_i32_526 v5
  let c256_i32_527 : BitVec 32 := 256#32
  let v595 : BitVec 32 := Scalar.muli v594 c256_i32_527
  let c1792_i32_529 : BitVec 32 := 1792#32
  ![v595.toNat, 1792]
def k0_off16 (d0 : Dev nD) : Fin 2 → Nat :=
  let c1_i32_541 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v608 : BitVec 32 := Scalar.subi c1_i32_541 v5
  let c256_i32_542 : BitVec 32 := 256#32
  let v609 : BitVec 32 := Scalar.muli v608 c256_i32_542
  let c2560_i32_544 : BitVec 32 := 2560#32
  ![v609.toNat, 2560]
def k0_off17 (d0 : Dev nD) : Fin 2 → Nat :=
  let c1_i32_556 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v622 : BitVec 32 := Scalar.subi c1_i32_556 v5
  let c256_i32_557 : BitVec 32 := 256#32
  let v623 : BitVec 32 := Scalar.muli v622 c256_i32_557
  let c3328_i32_559 : BitVec 32 := 3328#32
  ![v623.toNat, 3328]
def k0_off18 (d0 : Dev nD) : Fin 2 → Nat :=
  let c1_i32_571 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v636 : BitVec 32 := Scalar.subi c1_i32_571 v5
  let c256_i32_572 : BitVec 32 := 256#32
  let v637 : BitVec 32 := Scalar.muli v636 c256_i32_572
  let c3840_i32_574 : BitVec 32 := 3840#32
  ![v637.toNat, 3840]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | .hbm, ⟨4, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/- The kernel's body as a sequence of STEPS, each a short run of memory operations on ONE of the eight column
   chunks: bring a chunk of `dy` in, form and send the partial product of a chunk, add the half received and pass the
   sum on, write a chunk out, wait for a transfer. A step is written once, for any chunk `k : Fin 8`, with what
   follows it as its last argument; `body_eq` says that the printed body is these steps in order. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Chunked

open Idealize.ShloMosaic Idealize.ShloMosaic.TcCoe Idealize.SL.Sem
open Cert.KernelIdeal Cert.KernelIdeal.Gen

variable {F : FTy → Type} [FloatOps F]

/-! ## The chunks -/

/-- The column at which chunk `k` begins. -/
def off : Fin 8 → ℕ := ![0, 256, 640, 1152, 1792, 2560, 3328, 3840]
/-- The number of columns of chunk `k`. -/
def wd : Fin 8 → ℕ := ![256, 384, 512, 640, 768, 768, 512, 256]
/-- The shape of a chunk of `dy`: every row, the chunk's columns. -/
abbrev SD (k : Fin 8) : Shape := ⟨2, ![1024, wd k]⟩
/-- The shape of a chunk of a 256-row array. -/
abbrev SX (k : Fin 8) : Shape := ⟨2, ![256, wd k]⟩

/-- A fact about a chunk's column range is a fact about eight pairs of numbers. -/
theorem off_wd (k : Fin 8) : off k + wd k ≤ 4096 := by revert k; decide
theorem wd_pos (k : Fin 8) : 0 < wd k := by revert k; decide

theorem inbD (k : Fin 8) : ∀ a, (![0, off k] : Fin 2 → ℕ) a + (SD k).size a ≤ S1024x4096.size a := by
  revert k; decide
theorem inbX (k : Fin 8) : ∀ a, (![0, off k] : Fin 2 → ℕ) a + (SX k).size a ≤ S256x4096.size a := by
  revert k; decide

/-- Chunk `k` of a 1024-row array. -/
abbrev rD (k : Fin 8) : Rect S1024x4096 := Rect.unit (s := S1024x4096) ![0, off k] (SD k).size (inbD k)
/-- Chunk `k` of a 256-row array. -/
abbrev rX (k : Fin 8) : Rect S256x4096 := Rect.unit (s := S256x4096) ![0, off k] (SX k).size (inbX k)

theorem posD (k : Fin 8) : 0 < (SD k).numel := by revert k; decide
theorem posX (k : Fin 8) : 0 < (SX k).numel := by revert k; decide

/-- A chunk's rows begin and end on a word, at two bytes an element. -/
theorem packedD (k : Fin 8) : (rD k).PackedRows (EltTy.packing .bf16) := by
  fin_cases k
  exacts [packedbf16_S1024x4096_S1024x256_0_0, packedbf16_S1024x4096_S1024x384_0_256,
    packedbf16_S1024x4096_S1024x512_0_640, packedbf16_S1024x4096_S1024x640_0_1152,
    packedbf16_S1024x4096_S1024x768_0_1792, packedbf16_S1024x4096_S1024x768_0_2560,
    packedbf16_S1024x4096_S1024x512_0_3328, packedbf16_S1024x4096_S1024x256_0_3840]
theorem packedX (k : Fin 8) : (rX k).PackedRows (EltTy.packing .bf16) := by
  fin_cases k
  exacts [packedbf16_S256x4096_S256x256_0_0, packedbf16_S256x4096_S256x384_0_256,
    packedbf16_S256x4096_S256x512_0_640, packedbf16_S256x4096_S256x640_0_1152, packedbf16_S256x4096_S256x768_0_1792,
    packedbf16_S256x4096_S256x768_0_2560, packedbf16_S256x4096_S256x512_0_3328, packedbf16_S256x4096_S256x256_0_3840]
/-- A chunk of a 256-row array is whole words, at two bytes an element. -/
theorem wordsX (k : Fin 8) : (rX k).WholeWords (EltTy.packing .bf16) := by
  fin_cases k
  exacts [wordsbf16_S256x4096_S256x256_0_0, wordsbf16_S256x4096_S256x384_0_256, wordsbf16_S256x4096_S256x512_0_640,
    wordsbf16_S256x4096_S256x640_0_1152, wordsbf16_S256x4096_S256x768_0_1792, wordsbf16_S256x4096_S256x768_0_2560,
    wordsbf16_S256x4096_S256x512_0_3328, wordsbf16_S256x4096_S256x256_0_3840]

theorem castD (k : Fin 8) : (SD k).ShapeCasts (SD k) := by
  fin_cases k
  exacts [shapeCasts_S1024x256_S1024x256, shapeCasts_S1024x384_S1024x384, shapeCasts_S1024x512_S1024x512,
    shapeCasts_S1024x640_S1024x640, shapeCasts_S1024x768_S1024x768, shapeCasts_S1024x768_S1024x768,
    shapeCasts_S1024x512_S1024x512, shapeCasts_S1024x256_S1024x256]
theorem castX (k : Fin 8) : (SX k).ShapeCasts (SX k) := by
  fin_cases k
  exacts [shapeCasts_S256x256_S256x256, shapeCasts_S256x384_S256x384, shapeCasts_S256x512_S256x512,
    shapeCasts_S256x640_S256x640, shapeCasts_S256x768_S256x768, shapeCasts_S256x768_S256x768,
    shapeCasts_S256x512_S256x512, shapeCasts_S256x256_S256x256]
theorem dotX_wf (k : Fin 8) : DotDims.WF S1024x256 (SD k) (SX k) [0] [0] [1] [1] [] [] := by
  fin_cases k
  exacts [dot_S1024x256_S1024x256_S256x256_0_0_1_1_n_n_wf, dot_S1024x256_S1024x384_S256x384_0_0_1_1_n_n_wf,
    dot_S1024x256_S1024x512_S256x512_0_0_1_1_n_n_wf, dot_S1024x256_S1024x640_S256x640_0_0_1_1_n_n_wf,
    dot_S1024x256_S1024x768_S256x768_0_0_1_1_n_n_wf, dot_S1024x256_S1024x768_S256x768_0_0_1_1_n_n_wf,
    dot_S1024x256_S1024x512_S256x512_0_0_1_1_n_n_wf, dot_S1024x256_S1024x256_S256x256_0_0_1_1_n_n_wf]
theorem slicesX (k : Fin 8) : S256x4096.Slices ![0, off k] (SX k) := by
  fin_cases k
  exacts [slices_S256x4096_o0_0_S256x256, slices_S256x4096_o0_256_S256x384, slices_S256x4096_o0_640_S256x512,
    slices_S256x4096_o0_1152_S256x640, slices_S256x4096_o0_1792_S256x768, slices_S256x4096_o0_2560_S256x768,
    slices_S256x4096_o0_3328_S256x512, slices_S256x4096_o0_3840_S256x256]

/-- The product of a transposed 1024×256 block with a chunk of `dy`: the rows of both contracted. -/
def dotX (k : Fin 8) : DotDims S1024x256 (SD k) (SX k) where
  lhsContracting := [0]
  rhsContracting := [0]
  lhsNonContracting := [1]
  rhsNonContracting := [1]
  lhsBatch := []
  rhsBatch := []
  wf := dotX_wf k

/-! ## What the steps compute -/

/-- A chunk of `dy` narrowed to two bytes. -/
def payD (k : Fin 8) (v : Vec F (SD k) .f32) : FVec F (SD k) .bf16 :=
  shapeCast (SD k) (truncf .bf16 v bitsLt_bf16_f32) (castD k)
/-- The partial product for the other half's rows, chunk `k`, narrowed. -/
def payX (k : Fin 8) (xb : FVec F S1024x256 .bf16) (w : Vec F (SD k) .bf16) : FVec F (SX k) .bf16 :=
  shapeCast (SX k) (truncf .bf16 (matmul (dotX k) none xb w (constant (SX k) .f32 0x00000000#32)) bitsLt_bf16_f32) (castX k)
/-- The own partial product's chunk `k` and the half received, added and narrowed. -/
def payY (k : Fin 8) (A : FVec F S256x4096 .f32) (w : Vec F (SX k) .bf16) : FVec F (SX k) .bf16 :=
  shapeCast (SX k) (truncf .bf16 (addf (extractStridedSlice (SX k) ![0, off k] A (slicesX k)) (extf .f32 w bitsLt_bf16_f32))
    bitsLt_bf16_f32) (castX k)

/-! ## The arrays and the semaphores -/

abbrev aDy : Memref sig .tc .hbm S1024x4096 .f32 := Memref.whole main_arg1
abbrev aOut : Memref sig .tc .hbm S512x4096 .bf16 := Memref.whole main_v1
abbrev aDyf : Memref sig .tc .vmem S1024x4096 .f32 := Memref.whole cc0_scratch0
abbrev aDyh : Memref sig .tc .vmem S1024x4096 .bf16 := Memref.whole cc0_scratch1
abbrev aXs : Memref sig .tc .vmem S256x4096 .bf16 := Memref.whole cc0_scratch2
abbrev aXr : Memref sig .tc .vmem S256x4096 .bf16 := Memref.whole cc0_scratch3
abbrev aYs : Memref sig .tc .vmem S256x4096 .bf16 := Memref.whole cc0_scratch4
abbrev aYr : Memref sig .tc .vmem S256x4096 .bf16 := Memref.whole cc0_scratch5

/-- Chunk `k` of each array. -/
abbrev mDy (k : Fin 8) : Memref sig .tc .hbm (SD k) .f32 := aDy.slice (rD k) (fun _ => rfl)
abbrev mDyf (k : Fin 8) : Memref sig .tc .vmem (SD k) .f32 := aDyf.slice (rD k) (fun _ => rfl)
abbrev mXs (k : Fin 8) : Memref sig .tc .vmem (SX k) .bf16 := aXs.slice (rX k) (fun _ => rfl)
abbrev mXr (k : Fin 8) : Memref sig .tc .vmem (SX k) .bf16 := aXr.slice (rX k) (fun _ => rfl)
abbrev mYs (k : Fin 8) : Memref sig .tc .vmem (SX k) .bf16 := aYs.slice (rX k) (fun _ => rfl)
abbrev mYr (k : Fin 8) : Memref sig .tc .vmem (SX k) .bf16 := aYr.slice (rX k) (fun _ => rfl)
/-- A chunk-shaped piece of the result, at the offsets `o`. -/
abbrev mOut (k : Fin 8) (o : Fin 2 → ℕ) (ho : ∀ a, o a + (SX k).size a ≤ S512x4096.size a) :
    Memref sig .tc .hbm (SX k) .bf16 :=
  aOut.slice (Rect.unit (s := S512x4096) o (SX k).size ho) (fun _ => rfl)

/-- The DMA semaphore of family `f`, chunk `k`: the seven families are `dy` arriving, a partial product sent and
    received, a sum sent and received, a sum written out and a received sum written out. -/
def dsem (f : Fin 7) (k : Fin 8) : DmaSem sig := ⟨1 + 8 * f.1 + k.1, by
  have := f.2; have := k.2; show _ < 57; omega⟩
abbrev sDy (k : Fin 8) : DmaSem sig := dsem 0 k
abbrev sXs (k : Fin 8) : DmaSem sig := dsem 1 k
abbrev sXr (k : Fin 8) : DmaSem sig := dsem 2 k
abbrev sYs (k : Fin 8) : DmaSem sig := dsem 3 k
abbrev sYr (k : Fin 8) : DmaSem sig := dsem 4 k
abbrev sOo (k : Fin 8) : DmaSem sig := dsem 5 k
abbrev sOt (k : Fin 8) : DmaSem sig := dsem 6 k
/-- The barrier semaphore. -/
abbrev bar : Sem sig := (SemArray.scalar (sig.barrier 0 rfl) : Sems sig S_).sem

/-! ## The steps -/

/-- The programs the body is made of. -/
abbrev PR (F : FTy → Type) [FloatOps F] := Prog (TpuEff nD τ sig (Elt F) Λ₀ .tc) PUnit

/-- The whole words of a chunk of a whole 256-row array. -/
theorem weX (b : Memref sig .tc .vmem S256x4096 .bf16) (hb : b.IsWhole) (k : Fin 8) :
    (b.slice (rX k) (fun _ => rfl)).view.WordExact := hb.wordExact_slice rfl _ (wordsX k)

theorem weOut (k : Fin 8) (o : Fin 2 → ℕ) (ho : ∀ a, o a + (SX k).size a ≤ S512x4096.size a)
    (hw : (Rect.unit (s := S512x4096) o (SX k).size ho).WholeWords (EltTy.packing .bf16)) : (mOut k o ho).view.WordExact :=
  (Memref.isWhole_whole main_v1).wordExact_slice rfl _ hw

/-- Start bringing chunk `k` of `dy` in. -/
def copyIn (k : Fin 8) (K : PR F) : PR F :=
  .op (.enqueueDma (mDy k) (.here (mDyf k)) (.dma (sDy k)) (View.wordExact_bits rfl) (View.wordExact_bits rfl) ⟨Or.inl rfl, trivial⟩)
    fun _ => K

/-- Wait for chunk `k` of `dy`, keep it narrowed, and form the other half's partial product of it. -/
def head (k : Fin 8) (xb : FVec F S1024x256 .bf16) (K : PR F) : PR F :=
  .op (.waitDma2 (sDy k) (mDy k) (mDyf k) (View.wordExact_bits rfl) (View.wordExact_bits rfl)) fun _ =>
  .op (.load aDyf (rD k).toLoadRect (View.loadsAt_vmem (posD k))) fun v =>
  .op (.load aDyh (rD k).toLoadRect (View.loadsAt_vmem (posD k))) fun _ =>
  .op (.store aDyh (rD k) (payD k v) Finset.univ
    (View.stores_vmem (posD k) ((Memref.isWhole_whole cc0_scratch1).storeExact_slice rfl _ (packedD k)) (fun _ => rfl)) (.inl rfl)) fun _ =>
  .op (.load aDyh (rD k).toLoadRect (View.loadsAt_vmem (posD k))) fun w =>
  .op (.load aXs (rX k).toLoadRect (View.loadsAt_vmem (posX k))) fun _ =>
  .op (.store aXs (rX k) (payX k xb w) Finset.univ
    (View.stores_vmem (posX k) ((Memref.isWhole_whole cc0_scratch2).storeExact_slice rfl _ (packedX k)) (fun _ => rfl)) (.inl rfl)) fun _ =>
  K

/-- Send chunk `k` of the partial product to `dev`. -/
def sendX (k : Fin 8) (dev : Dev nD) (K : PR F) : PR F :=
  .op (.enqueueDma (mXs k) (.remote (Dev.tc dev) (mXr k) (.dma (sXs k))) (.dma (sXr k))
    (weX aXs (Memref.isWhole_whole _) k) (weX aXr (Memref.isWhole_whole _) k) ⟨⟨rfl, Or.inl rfl⟩, trivial⟩) fun _ => K

/-- Wait for the half of chunk `k` that arrives, add it to the own half, send the sum to `dev` and start writing it to
    the result at `o`. -/
def combine (k : Fin 8) (A : FVec F S256x4096 .f32) (dev : Dev nD) (o : Fin 2 → ℕ)
    (ho : ∀ a, o a + (SX k).size a ≤ S512x4096.size a)
    (hw : (Rect.unit (s := S512x4096) o (SX k).size ho).WholeWords (EltTy.packing .bf16)) (K : PR F) : PR F :=
  .op (.waitDma2 (sXr k) (mXs k) (mXr k) (weX aXs (Memref.isWhole_whole _) k) (weX aXr (Memref.isWhole_whole _) k)) fun _ =>
  .op (.load aXr (rX k).toLoadRect (View.loadsAt_vmem (posX k))) fun w =>
  .op (.load aYs (rX k).toLoadRect (View.loadsAt_vmem (posX k))) fun _ =>
  .op (.store aYs (rX k) (payY k A w) Finset.univ
    (View.stores_vmem (posX k) ((Memref.isWhole_whole cc0_scratch4).storeExact_slice rfl _ (packedX k)) (fun _ => rfl)) (.inl rfl)) fun _ =>
  .op (.enqueueDma (mYs k) (.remote (Dev.tc dev) (mYr k) (.dma (sYs k))) (.dma (sYr k))
    (weX aYs (Memref.isWhole_whole _) k) (weX aYr (Memref.isWhole_whole _) k) ⟨⟨rfl, Or.inl rfl⟩, trivial⟩) fun _ =>
  .op (.enqueueDma (mYs k) (.here (mOut k o ho)) (.dma (sOo k)) (weX aYs (Memref.isWhole_whole _) k) (weOut k o ho hw)
    ⟨Or.inl rfl, trivial⟩) fun _ => K

/-- Wait for the sum of the other rows' chunk `k` and start writing it to the result at `o`. -/
def forward (k : Fin 8) (o : Fin 2 → ℕ) (ho : ∀ a, o a + (SX k).size a ≤ S512x4096.size a)
    (hw : (Rect.unit (s := S512x4096) o (SX k).size ho).WholeWords (EltTy.packing .bf16)) (K : PR F) : PR F :=
  .op (.waitDma2 (sYr k) (mYs k) (mYr k) (weX aYs (Memref.isWhole_whole _) k) (weX aYr (Memref.isWhole_whole _) k)) fun _ =>
  .op (.enqueueDma (mYr k) (.here (mOut k o ho)) (.dma (sOt k)) (weX aYr (Memref.isWhole_whole _) k) (weOut k o ho hw)
    ⟨Or.inl rfl, trivial⟩) fun _ => K

/-- Wait for chunk `k`'s four outstanding transfers: its two writes to the result and its two sends. -/
def drain (k : Fin 8) (o : Fin 2 → ℕ) (ho : ∀ a, o a + (SX k).size a ≤ S512x4096.size a)
    (hw : (Rect.unit (s := S512x4096) o (SX k).size ho).WholeWords (EltTy.packing .bf16))
    (o' : Fin 2 → ℕ) (ho' : ∀ a, o' a + (SX k).size a ≤ S512x4096.size a)
    (hw' : (Rect.unit (s := S512x4096) o' (SX k).size ho').WholeWords (EltTy.packing .bf16)) (K : PR F) : PR F :=
  .op (.waitDma2 (sOo k) (mYs k) (mOut k o ho) (weX aYs (Memref.isWhole_whole _) k) (weOut k o ho hw)) fun _ =>
  .op (.waitDma2 (sOt k) (mYr k) (mOut k o' ho') (weX aYr (Memref.isWhole_whole _) k) (weOut k o' ho' hw')) fun _ =>
  .op (.waitDma2 (sXs k) (mXr k) (mXs k) (weX aXr (Memref.isWhole_whole _) k) (weX aXs (Memref.isWhole_whole _) k)) fun _ =>
  .op (.waitDma2 (sYs k) (mYr k) (mYs k) (weX aYr (Memref.isWhole_whole _) k) (weX aYs (Memref.isWhole_whole _) k)) fun _ =>
  K

/-! ## The devices and offsets, as printed -/

/-- The device each chunk of the partial product is sent to. -/
def devX (d : Dev nD) : Fin 8 → Dev nD :=
  ![⟨k0_dev3 d, k0_dev3_lt d⟩, ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩, ⟨k0_dev10 d, k0_dev10_lt d⟩]
/-- The device each chunk of the sum is sent to. -/
def devY (d : Dev nD) : Fin 8 → Dev nD :=
  ![⟨k0_dev11 d, k0_dev11_lt d⟩, ⟨k0_dev12 d, k0_dev12_lt d⟩, ⟨k0_dev13 d, k0_dev13_lt d⟩, ⟨k0_dev14 d, k0_dev14_lt d⟩,
    ⟨k0_dev15 d, k0_dev15_lt d⟩, ⟨k0_dev16 d, k0_dev16_lt d⟩, ⟨k0_dev17 d, k0_dev17_lt d⟩, ⟨k0_dev18 d, k0_dev18_lt d⟩]
/-- Where the own rows' chunks lie in the result. -/
def offO (d : Dev nD) : Fin 8 → Fin 2 → ℕ :=
  ![k0_off3 d, k0_off4 d, k0_off5 d, k0_off6 d, k0_off7 d, k0_off8 d, k0_off9 d, k0_off10 d]
/-- Where the other rows' chunks lie in the result. -/
def offT (d : Dev nD) : Fin 8 → Fin 2 → ℕ :=
  ![k0_off11 d, k0_off12 d, k0_off13 d, k0_off14 d, k0_off15 d, k0_off16 d, k0_off17 d, k0_off18 d]

theorem offO_inb (d : Dev nD) (k : Fin 8) : ∀ a, offO d k a + (SX k).size a ≤ S512x4096.size a := by
  fin_cases k
  exacts [k0_off3_inb d, k0_off4_inb d, k0_off5_inb d, k0_off6_inb d, k0_off7_inb d, k0_off8_inb d, k0_off9_inb d, k0_off10_inb d]
theorem offT_inb (d : Dev nD) (k : Fin 8) : ∀ a, offT d k a + (SX k).size a ≤ S512x4096.size a := by
  fin_cases k
  exacts [k0_off11_inb d, k0_off12_inb d, k0_off13_inb d, k0_off14_inb d, k0_off15_inb d, k0_off16_inb d, k0_off17_inb d, k0_off18_inb d]
theorem offO_words (d : Dev nD) (k : Fin 8) :
    (Rect.unit (s := S512x4096) (offO d k) (SX k).size (offO_inb d k)).WholeWords (EltTy.packing .bf16) := by
  fin_cases k
  exacts [k0_off3_wordsbf16 d, k0_off4_wordsbf16 d, k0_off5_wordsbf16 d, k0_off6_wordsbf16 d, k0_off7_wordsbf16 d, k0_off8_wordsbf16 d, k0_off9_wordsbf16 d, k0_off10_wordsbf16 d]
theorem offT_words (d : Dev nD) (k : Fin 8) :
    (Rect.unit (s := S512x4096) (offT d k) (SX k).size (offT_inb d k)).WholeWords (EltTy.packing .bf16) := by
  fin_cases k
  exacts [k0_off11_wordsbf16 d, k0_off12_wordsbf16 d, k0_off13_wordsbf16 d, k0_off14_wordsbf16 d, k0_off15_wordsbf16 d, k0_off16_wordsbf16 d, k0_off17_wordsbf16 d, k0_off18_wordsbf16 d]

/-! ## The body -/

/-- A step for each chunk listed, in order. -/
def each (l : List (Fin 8)) (f : Fin 8 → PR F → PR F) (K : PR F) : PR F := l.foldr f K

/-- The sums combined, passed on and written out, then every transfer waited for. -/
def finish (d : Dev nD) (A : FVec F S256x4096 .f32) : PR F :=
  each [0, 1, 2, 3, 4, 5, 6, 7] (fun k => combine k A (devY d k) (offO d k) (offO_inb d k) (offO_words d k)) <|
  each [0, 1, 2, 3, 4, 5, 6, 7] (fun k => forward k (offT d k) (offT_inb d k) (offT_words d k)) <|
  each [0, 1, 2, 3, 4, 5, 6, 7] (fun k => drain k (offO d k) (offO_inb d k) (offO_words d k) (offT d k) (offT_inb d k) (offT_words d k)) <|
  .ret ⟨⟩

/-- The body on device `d`: bring `dy` in, meet both neighbours, read the two column blocks of `x`, send the other
    half's partial product a chunk at a time, form the own half's, and finish. -/
def device (arg0 : Memref sig .tc .vmem S1024x1024 .f32) (d : Dev nD) : PR F :=
  each [0, 1, 2, 3, 4, 5, 6, 7] copyIn <|
  .op (.semSignal (Dev.tc (⟨k0_dev1 d, k0_dev1_lt d⟩ : Dev nD)) bar 1) fun _ =>
  .op (.semSignal (Dev.tc (⟨k0_dev2 d, k0_dev2_lt d⟩ : Dev nD)) bar 1) fun _ =>
  .op (.load arg0 (Rect.unit (s := S1024x1024) (k0_off1 d) S1024x256.size (k0_off1_inb d)).toLoadRect (View.loadsAt_vmem h_S1024x256)) fun vb =>
  .op (.load arg0 (Rect.unit (s := S1024x1024) (k0_off2 d) S1024x256.size (k0_off2_inb d)).toLoadRect (View.loadsAt_vmem h_S1024x256)) fun va =>
  each [0, 1] (fun k => head k (k0_pay1 vb)) <|
  .op (.semWait bar 2) fun _ =>
  each [0, 1] (fun k => sendX k (devX d k)) <|
  each [2, 3, 4, 5, 6, 7] (fun k K => head k (k0_pay1 vb) (sendX k (devX d k) K)) <|
  .op (.load aDyh (Rect.unit (s := S1024x4096) ![0, 0] S1024x4096.size inb_S1024x4096_S1024x4096_0_0).toLoadRect (View.loadsAt_vmem h_S1024x4096)) fun w =>
  finish d (k0_pay20 (k0_pay2 va) w)

/-- The printed body is the steps in order. -/
theorem body_eq (arg0 : Memref sig .tc .vmem S1024x1024 .f32) (harg0 : arg0.IsWhole) :
    cc0_body (F := F) arg0 harg0 aDy (Memref.isWhole_whole _) aOut (Memref.isWhole_whole _) aDyf (Memref.isWhole_whole _)
      aDyh (Memref.isWhole_whole _) aXs (Memref.isWhole_whole _) aXr (Memref.isWhole_whole _) aYs (Memref.isWhole_whole _)
      aYr (Memref.isWhole_whole _) cc0_scratch6 cc0_scratch7 cc0_scratch8 cc0_scratch9 cc0_scratch10 cc0_scratch11 cc0_scratch12
    = .op .deviceId fun d => device arg0 d := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel,
    semSignalWord, semWaitWord, Prog.lift, Prog.bind_op, Prog.bind_ret, Prog.pure_eq_ret]
  rfl

end Cert.KernelIdeal.Chunked

end
-- ==== Proof.Protocol.lean ====
/- The PROTOCOL the devices follow: which device each one meets, what every transfer and every barrier signal hands
   over, what a device owes the others when it starts, and why no wait can be for something its own debts hold up. -/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and this protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

abbrev 𝒱₀ : Variants := Variants.none

/-! ## Who meets whom: devices are `(x, y)` on a two by two mesh, device `2x + y` -/

set_option backward.proofsInPublic true in
/-- The device of the other `x`, same `y`. -/
def xp (c : Dev nD) : Dev nD := ⟨(c.val + 2) % 4, Nat.mod_lt _ (by decide)⟩
set_option backward.proofsInPublic true in
/-- The device of the same `x`, other `y`. -/
def yp (c : Dev nD) : Dev nD := ⟨(c.val / 2) * 2 + (1 - c.val % 2), by have := c.2; show _ < 4; have : c.val < 4 := c.2; omega⟩

theorem xp_xp (c : Dev nD) : xp (xp c) = c := by revert c; decide
theorem yp_yp (c : Dev nD) : yp (yp c) = c := by revert c; decide

theorem dev1_eq (c : Dev nD) : (⟨k0_dev1 c, k0_dev1_lt c⟩ : Dev nD) = xp c := by revert c; decide
theorem dev2_eq (c : Dev nD) : (⟨k0_dev2 c, k0_dev2_lt c⟩ : Dev nD) = yp c := by revert c; decide
theorem devX_eq (c : Dev nD) (k : Fin 8) : devX c k = xp c := by revert c k; decide
theorem devY_eq (c : Dev nD) (k : Fin 8) : devY c k = yp c := by revert c k; decide

/-! ## The cells -/

/-- A device's cells: its barrier, and family `f`'s transfer of chunk `k`. -/
abbrev CI : Type := Option (Fin 7 × Fin 8)

/-- The semaphore of a cell. -/
abbrev csem : CI → SemLoc sig
  | none => .reg bar
  | some p => .dma (dsem p.1 p.2)
/-- The cell of a device. -/
abbrev kcell (x : Dev nD × CI) : GSem nD τ sig := ((x.1 : Thread nD τ), csem x.2)

set_option backward.proofsInPublic true in
/-- The cell a semaphore is (the staging semaphore, which is no cell of the protocol, reads as one whose level is 0). -/
def dec : SemLoc sig → CI
  | .reg _ => none
  | .dma s => some (⟨((s.val - 1) / 8) % 7, Nat.mod_lt _ (by decide)⟩, ⟨(s.val - 1) % 8, Nat.mod_lt _ (by decide)⟩)

theorem dec_csem (i : CI) : dec (csem i) = i := by revert i; decide
theorem csem_injective : Function.Injective csem := fun i j h => by rw [← dec_csem i, ← dec_csem j, h]
theorem kcell_injective : Function.Injective (kcell : Dev nD × CI → GSem nD τ sig) := fun x y h => by
  obtain ⟨c, i⟩ := x
  obtain ⟨d, j⟩ := y
  have h1 : (c : Thread nD τ) = d := congrArg Prod.fst h
  have h2 : csem i = csem j := congrArg Prod.snd h
  rw [csem_injective h2, show c = d from congrArg Prod.fst h1]

/-- The units a transfer of family `f`, chunk `k`, counts on its semaphore. -/
def N (f : Fin 7) (k : Fin 8) : ℕ := if f = 0 then (mDyf k).view.dmaCredit else (mXr k).view.dmaCredit
theorem N_pos (f : Fin 7) (k : Fin 8) : 0 < N f k := by
  unfold N; split
  · exact View.dmaCredit_pos _ (posD k)
  · exact View.dmaCredit_pos _ (posX k)
/-- The units one duty of a cell counts. -/
def amt : CI → ℕ
  | none => 1
  | some p => N p.1 p.2
theorem amt_pos (i : CI) : 0 < amt i := by
  cases i with
  | none => exact Nat.one_pos
  | some p => exact N_pos p.1 p.2

/-! ## Contents -/

/-- A device's block of `x`, as staged. -/
def xstg (c : Dev nD) : (cc0_stg0_0 : Ref sig .tc).ty.Contents (Elt F) :=
  (win0_0.blk (0 : Fin 1)).view.read (Elt F) (m ((c : Thread nD τ).loc main_arg0))
/-- A device's block of `dy`. -/
def dyv (c : Dev nD) : S1024x4096.Idx → Elt F .f32 := m ((c : Thread nD τ).loc main_arg1)
/-- Chunk `k` of it. -/
def DYc (c : Dev nD) (k : Fin 8) : Vec F (SD k) .f32 := fun j => dyv m c ((rD k).emb j)
/-- It narrowed. -/
def DYh (c : Dev nD) : Vec F S1024x4096 .bf16 := truncf .bf16 (dyv m c : FVec F S1024x4096 .f32) bitsLt_bf16_f32
/-- Chunk `k` of that. -/
def DYhc (c : Dev nD) (k : Fin 8) : Vec F (SD k) .bf16 := fun j => DYh m c ((rD k).emb j)
/-- The block of columns of `x` whose product goes to the other half, and the one kept. -/
def xb (c : Dev nD) : FVec F S1024x256 .bf16 :=
  k0_pay1 fun j => xstg m c ((Rect.unit (s := S1024x1024) (k0_off1 c) S1024x256.size (k0_off1_inb c)).emb j)
def xa (c : Dev nD) : FVec F S1024x256 .bf16 :=
  k0_pay2 fun j => xstg m c ((Rect.unit (s := S1024x1024) (k0_off2 c) S1024x256.size (k0_off2_inb c)).emb j)
/-- What a device sends across: chunk `k` of the other half's partial product. -/
def XS (c : Dev nD) (k : Fin 8) : FVec F (SX k) .bf16 := payX k (xb m c) (DYhc m c k)
/-- The own partial product. -/
def AA (c : Dev nD) : FVec F S256x4096 .f32 := k0_pay20 (xa m c) (DYh m c)
/-- Chunk `k` of the sum. -/
def YS (c : Dev nD) (k : Fin 8) : FVec F (SX k) .bf16 := payY k (AA m c) (XS m (xp c) k)

theorem payD_eq (c : Dev nD) (k : Fin 8) : payD k (DYc m c k) = DYhc m c k := by
  unfold payD
  rw [shapeCast_self]
  rfl

/-! ## Pieces -/

/-- Owning a piece, at some contents. -/
abbrev some_ {sp : Space} {s : Shape} {e : EltTy} (c : Dev nD) (b : Memref sig .tc sp s e) : sProp 𝕄 :=
  iprop(∃ v, owns (Val := Elt F) (c : Thread nD τ) b fullShare v)
/-- Owning a piece at known contents. -/
abbrev own {sp : Space} {s : Shape} {e : EltTy} (c : Dev nD) (b : Memref sig .tc sp s e) (v : s.Idx → Elt F e) : sProp 𝕄 :=
  owns (Val := Elt F) (c : Thread nD τ) b fullShare v
/-- Half of a piece, for reading: the left half, and the right one. -/
abbrev ownL {sp : Space} {s : Shape} {e : EltTy} (c : Dev nD) (b : Memref sig .tc sp s e) (v : s.Idx → Elt F e) : sProp 𝕄 :=
  owns (Val := Elt F) (c : Thread nD τ) b fullShare.left v
abbrev ownR {sp : Space} {s : Shape} {e : EltTy} (c : Dev nD) (b : Memref sig .tc sp s e) (v : s.Idx → Elt F e) : sProp 𝕄 :=
  owns (Val := Elt F) (c : Thread nD τ) b fullShare.right v
/-- The pieces of the result a device writes: its own rows', and the other rows'. -/
abbrev mO (c : Dev nD) (k : Fin 8) : Memref sig .tc .hbm (SX k) .bf16 := mOut k (offO c k) (offO_inb c k)
abbrev mT (c : Dev nD) (k : Fin 8) : Memref sig .tc .hbm (SX k) .bf16 := mOut k (offT c k) (offT_inb c k)

/-! ## The schedule -/

/-- What the signals of a barrier hand over: the places the signaller is ready to receive chunks at. -/
def barPay (c : Dev nD) (d : Bool) : sProp 𝕄 :=
  if d then bigSep Finset.univ fun k => some_ (xp c) (mXr k) else bigSep Finset.univ fun k => some_ (yp c) (mYr k)
/-- What each transfer of chunk `k` hands its device. -/
def dmaPay (c : Dev nD) (k : Fin 8) : Fin 7 → sProp 𝕄
  | 0 => iprop(own c (mDyf k) (DYc m c k) ∗ own c (mDy k) (DYc m c k))
  | 1 => own c (mXs k) (XS m c k)
  | 2 => own c (mXr k) (XS m (xp c) k)
  | 3 => ownL c (mYs k) (YS m c k)
  | 4 => own c (mYr k) (YS m (yp c) k)
  | 5 => iprop(own c (mO c k) (YS m c k) ∗ ownR c (mYs k) (YS m c k))
  | 6 => iprop(own c (mT c k) (YS m (yp c) k) ∗ own c (mYr k) (YS m (yp c) k))
/-- What a duty of a cell hands its device. -/
def pay (c : Dev nD) : CI → Bool → sProp 𝕄
  | none, d => barPay c d
  | some p, _ => dmaPay m c p.2 p.1

instance barPay_storable (c : Dev nD) (d : Bool) : BI.Storable (upEmb : UEmb _ 𝕄) (barPay (F := F) c d) := by
  unfold barPay; split <;> infer_instance
instance dmaPay_storable (c : Dev nD) (k : Fin 8) (f : Fin 7) : BI.Storable (upEmb : UEmb _ 𝕄) (dmaPay m c k f) := by
  fin_cases f <;> (dsimp only [dmaPay]; infer_instance)
instance pay_storable (c : Dev nD) (i : CI) (d : Bool) : BI.Storable (upEmb : UEmb _ 𝕄) (pay m c i d) := by
  cases i <;> (dsimp only [pay]; infer_instance)

/-- The duties of a cell: a barrier has one from each neighbour, any other cell one. -/
def cduties : CI → Finset Bool
  | none => Finset.univ
  | some _ => {false}

/-- One round, round 0. -/
def Rd : Rounds.Schedule (GSem nD τ sig) Bool 𝕄 where
  duties g r := if r = 0 then cduties (dec g.2) else ∅
  unitless _ := False
  amount g _ _ := amt (dec g.2)
  payload g _ d := pay m g.1.1 (dec g.2) d
  amount_pos g _ _ _ := amt_pos _

instance Rd_payload_storable (g : GSem nD τ sig) (r : ℕ) (d : Bool) :
    BI.Storable (upEmb : UEmb _ 𝕄) ((Rd m).payload g r d) := pay_storable m g.1.1 (dec g.2) d

section Sched
variable (x : Dev nD × CI)

theorem Rd_duties : (Rd m).duties (kcell x) 0 = cduties x.2 := by
  show (if (0 : ℕ) = 0 then cduties (dec (csem x.2)) else ∅) = _
  rw [if_pos rfl, dec_csem]
theorem Rd_later (g : GSem nD τ sig) : ∀ r, 1 ≤ r → (Rd m).duties g r = ∅ :=
  fun r hr => if_neg (by omega)
theorem Rd_amount (r : ℕ) (d : Bool) : (Rd m).amount (kcell x) r d = amt x.2 := congrArg amt (dec_csem x.2)
theorem Rd_payload (r : ℕ) (d : Bool) : (Rd m).payload (kcell x) r d = pay m x.1 x.2 d :=
  congrArg (fun i => pay m x.1 i d) (dec_csem x.2)
theorem Rd_expect : (Rd m).expect (kcell x) 0 = (cduties x.2).card * amt x.2 := by
  unfold Schedule.expect Schedule.amountOf
  rw [Rd_duties, Finset.sum_congr rfl fun d _ => Rd_amount m x 0 d, Finset.sum_const, smul_eq_mul]

/-- The whole round of a transfer's cell: its one payload. -/
theorem rest_dma (c : Dev nD) (f : Fin 7) (k : Fin 8) :
    bigSep ((Rd m).duties (kcell (c, some (f, k))) 0 \ ∅) (fun d => (Rd m).payload (kcell (c, some (f, k))) 0 d)
      = dmaPay m c k f := by
  rw [Finset.sdiff_empty, Rd_duties, show cduties ((c, some (f, k)) : Dev nD × CI).2 = {false} from rfl, bigSep_singleton, Rd_payload]
  rfl
/-- The whole round of a barrier: both neighbours' landing places. -/
theorem rest_bar (c : Dev nD) :
    bigSep ((Rd m).duties (kcell (c, none)) 0 \ ∅) (fun d => (Rd m).payload (kcell (c, none)) 0 d)
      = iprop((bigSep Finset.univ fun k => some_ (yp c) (mYr k)) ∗ (bigSep Finset.univ fun k => some_ (xp c) (mXr k))) := by
  rw [Finset.sdiff_empty, Rd_duties, show cduties ((c, none) : Dev nD × CI).2 = Finset.univ from rfl,
    bigSep_univ_eq_bigSepL [false, true] (by decide) (by decide), bigSepL_cons_cons, bigSepL_singleton,
    Rd_payload, Rd_payload]
  rfl
end Sched

/-! ## Debts and levels -/

/-- The debts listed, the first to be paid first. -/
def owed : List (Dev nD × CI) → CellTallies nD τ sig Unit
  | [] => 0
  | x :: l => owed l + tallyAt (kcell x) () (amt x.2)

theorem owed_pos : ∀ {l : List (Dev nD × CI)} {g : GSem nD τ sig} {u : Unit}, 0 < owed l g u → ∃ x ∈ l, g = kcell x
  | [], _, _, h => absurd h (Nat.lt_irrefl 0)
  | x :: l, g, u, h => by
    unfold owed at h
    rw [Pi.add_apply, Finsupp.add_apply, tallyAt_apply] at h
    by_cases hx : g = kcell x
    · exact ⟨x, List.mem_cons_self, hx⟩
    · rw [if_neg fun h' => hx h'.1, Nat.add_zero] at h
      obtain ⟨y, hy, e⟩ := owed_pos h
      exact ⟨y, List.mem_cons_of_mem _ hy, e⟩

/-- The debt to the other half's receive cell of chunk `k`, and to the other rows'. -/
abbrev dX (c : Dev nD) (k : Fin 8) : Dev nD × CI := (xp c, some (2, k))
abbrev dY (c : Dev nD) (k : Fin 8) : Dev nD × CI := (yp c, some (4, k))
/-- The chunks. -/
abbrev chunks : List (Fin 8) := [0, 1, 2, 3, 4, 5, 6, 7]
/-- What a device owes: a signal to each neighbour's barrier, then every chunk to each. -/
def debts (c : Dev nD) : List (Dev nD × CI) := (xp c, none) :: (yp c, none) :: (chunks.map (dX c) ++ chunks.map (dY c))

def L (g : GSem nD τ sig) : Finset Unit := if g.1.2 = .tc then {()} else ∅
/-- The level of a cell: a barrier's is below a partial product's arrival, that below a sum's; the rest at the bottom. -/
def clv : CI → ℕ
  | none => 1
  | some p => if p.1 = 2 then 2 else if p.1 = 4 then 3 else 0
def lv (g : GSem nD τ sig) (_ : Unit) : ℕ := clv (dec g.2)

theorem L_of_ne (g : GSem nD τ sig) (h : g.1.2 ≠ .tc) : L g = ∅ := if_neg h
theorem L_tc (c : Dev nD) (sm : SemLoc sig) : L ((c : Thread nD τ), sm) = {()} := if_pos rfl

/-- A wait is allowed while every debt is at a higher level. -/
theorem mayWait (c : Dev nD) (sm : SemLoc sig) (l : List (Dev nD × CI)) (h : ∀ x ∈ l, clv (dec sm) < clv x.2) :
    (levAts L lv : sProp 𝕄) ⊢ MayWait (c : Thread nD τ) sm () (owed l) :=
  MayOwe.of_cut (L := L) (lev := lv) (clv (dec sm))
    (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; exact le_rfl)
    (fun g u hg => by
      obtain ⟨x, hx, rfl⟩ := owed_pos hg
      show _ < clv (dec (csem x.2))
      rw [dec_csem]
      exact h x hx)

end Cert.KernelIdeal.Chunked

end
-- ==== Proof.Transfers.lean ====
/- One rule per step of the body: what a step needs and what it leaves, for any chunk. The general ones come first (a
   load and a store of a piece, a wait that ends its cell, a copy, a send), then a rule for each step of `Steps`, then
   the rule that runs a step over a list of chunks. -/
module

public import proofs.«01_k».proof.Proof.Protocol

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What every step may use -/

/-- Every cell's invariant, at the name `K` gives it, and that every cell's round has begun. -/
def records (K : Dev nD × CI → ℕ) : sProp 𝕄 :=
  iprop((bigSep Finset.univ fun x : Dev nD × CI => cellInv ER (Rd m) (K x) (kcell x))
    ∗ bigSep Finset.univ fun x : Dev nD × CI => reached ER (kcell x) 0)
instance records_persistent (K : Dev nD × CI → ℕ) : BI.Persistent (records m K) := by unfold records; infer_instance
/-- The records and the cells' levels. -/
def ctx (K : Dev nD × CI → ℕ) : sProp 𝕄 := iprop(records m K ∗ levAts L lv)
instance ctx_persistent (K : Dev nD × CI → ℕ) : BI.Persistent (ctx m K) := by unfold ctx; infer_instance

variable (K : Dev nD × CI → ℕ)

theorem inv_at (x : Dev nD × CI) : ctx m K ⊢ cellInv ER (Rd m) (K x) (kcell x) := by
  unfold ctx records
  iintro ⟨⟨H, -⟩, -⟩
  iapply (show (bigSep Finset.univ fun x : Dev nD × CI => (cellInv ER (Rd m) (K x) (kcell x) : sProp 𝕄)) ⊢ cellInv ER (Rd m) (K x) (kcell x)
    from bigSep_elim (Finset.mem_univ x))
  iexact H
theorem reached_at (x : Dev nD × CI) : ctx m K ⊢ reached ER (kcell x) 0 := by
  unfold ctx records
  iintro ⟨⟨-, H⟩, -⟩
  iapply (show (bigSep Finset.univ fun x : Dev nD × CI => (reached ER (kcell x) 0 : sProp 𝕄)) ⊢ reached ER (kcell x) 0
    from bigSep_elim (Finset.mem_univ x))
  iexact H
theorem lev_at : ctx m K ⊢ levAts L lv := by
  unfold ctx
  iintro ⟨-, H⟩
  iexact H

/-- What a device owes, whatever it has waited on. -/
def owesX (c : Dev nD) (l : List (Dev nD × CI)) : sProp 𝕄 := iprop(∃ W, owes (c : Thread nD τ) (owed l) W)
/-- The right to wait for a transfer, and its cell still in its round; -/
abbrev credit (c : Dev nD) (f : Fin 7) (k : Fin 8) : sProp 𝕄 := cred (tallyAt (kcell (c, some (f, k))) () (N f k))
abbrev pos (c : Dev nD) (f : Fin 7) (k : Fin 8) : sProp 𝕄 := atPos ER (kcell (c, some (f, k))) 0 ∅ 0
/-- the right to perform it once; -/
abbrev tok (c : Dev nD) (f : Fin 7) (k : Fin 8) : sProp 𝕄 := dutyTok ER (kcell (c, some (f, k))) 0 false
/-- its semaphore back at zero. -/
abbrev zero (c : Dev nD) (f : Fin 7) (k : Fin 8) : sProp 𝕄 := semVal (kcell (c, some (f, k))) 0

/-- A device's program from here runs, to `Q`. -/
abbrev WP (c : Dev nD) (p : PR F) (Q : PUnit → sProp 𝕄) : sProp 𝕄 :=
  wp frame (wpE (defs₀ (F := F)) 𝒱₀ (c : Thread nD τ) none) Set.univ p Q

variable {m K} {Q : PUnit.{1} → sProp (MT nD τ sig Unit (Elt F) ℕ UU ℕ)} (c : Dev nD)

/-! ## The general rules -/

/-- A load of a piece held at `X` reads `X`. -/
theorem wp_load_piece {s : Shape} {e : EltTy} (b : Memref sig .tc .vmem s e) (r : Rect s) (hr : ∀ a, r.stride a = 1)
    {hl : b.view.LoadsAt r.toLoadRect} {k : (r.shape.Idx → Elt F e) → PR F} (q : PosShare TreeShare) (X : r.shape.Idx → Elt F e) :
    owns (c : Thread nD τ) (b.slice r hr) q X
      ⊢ iprop((owns (c : Thread nD τ) (b.slice r hr) q X -∗ WP c (k X) Q) -∗ WP c (.op (.load b r.toLoadRect hl) k) Q) := by
  unfold owns
  iintro ⟨%f, %hf, H⟩ Hk
  iapply (wp_load_rect 𝒱₀ (c : Thread nD τ) none Set.univ (m := b) (r := r) (hl := hl) (k := k) (S := (b.access r).set) subset_rfl) $$ H
  iintro H
  rw [show (b.access r).read (Elt F) f = X from hf]
  iapply Hk
  iexists f
  isplitr; · ipureintro; exact hf
  iexact H

/-- A store over a whole piece leaves it at what was stored. -/
theorem wp_store_piece {s : Shape} {e : EltTy} (b : Memref sig .tc .vmem s e) (r : Rect s) (hr : ∀ a, r.stride a = 1)
    {w : r.shape.Idx → Elt F e} {hx : (b.access r).Stores Finset.univ} {hm : (Finset.univ : Finset r.shape.Idx) = Finset.univ ∨ ∀ a, r.stride a = 1}
    {k : PUnit → PR F} (X : r.shape.Idx → Elt F e) :
    own c (b.slice r hr) X
      ⊢ iprop((own c (b.slice r hr) w -∗ WP c (k ⟨⟩) Q) -∗ WP c (.op (.store b r w Finset.univ hx hm) k) Q) := by
  unfold own owns
  iintro ⟨%f, %hf, H⟩ Hk
  iapply (wp_store 𝒱₀ (c : Thread nD τ) none Set.univ (m := b) (r := r) (w := w) (Mk := Finset.univ) (hx := hx) (hm := hm) (k := k)
    (S := (b.access r).set) subset_rfl) $$ H
  iintro H
  iapply Hk
  iexists _
  isplitr
  rotate_left
  · iexact H
  · ipureintro; exact View.read_write_univ _ _

/-- A wait for a transfer: its payload, and its semaphore back at zero. -/
theorem wp_wait_dma (f : Fin 7) (k : Fin 8) (l : List (Dev nD × CI)) (hl : ∀ x ∈ l, clv (some (f, k)) < clv x.2)
    {sp sp' : Space} {s : Shape} {e : EltTy} {src : Memref sig .tc sp s e} {dst : Memref sig .tc sp' s e}
    {hs : src.view.WordExact} {hd : dst.view.WordExact} {k' : PUnit → PR F} (hN : dst.view.dmaCredit = N f k) :
    iprop(ctx m K ∗ owesX c l ∗ credit c f k ∗ pos c f k)
      ⊢ iprop(((owesX c l ∗ dmaPay m c k f ∗ zero c f k) -∗ WP c (k' ⟨⟩) Q)
          -∗ WP c (.op (.waitDma2 (dsem f k) src dst hs hd) k') Q) := by
  unfold owesX
  iintro ⟨#Hc, ⟨%W, HO⟩, Hcr, Hat⟩ Hk
  ihave #HI := (inv_at m K (c, some (f, k))) $$ Hc
  ihave Hcr := (Entails.of_eq (show (credit c f k : sProp 𝕄) = cred (tallyAt (kcell (c, some (f, k))) () dst.view.dmaCredit) by rw [hN])) $$ Hcr
  iapply (Rounds.wp_wait_rest_token 𝒱₀ ER (Rd m) (c : Thread nD τ) none (κ := K (c, some (f, k)))
      (wpE_waitDma2_eq 𝒱₀ (c : Thread nD τ) none Set.univ) (Set.mem_univ _) () (O := owed l) (W := W) (R := 0) (m := 0) (T := ∅)
      (by rw [Nat.zero_add]; refine hN.trans (((Rd_expect m (c, some (f, k))).trans ?_).symm)
          exact Nat.one_mul _)) $$ [Hcr HO Hat]
  · isplitr; · iexact HI
    isplitl [Hcr]; · iexact Hcr
    isplitl [HO]; · iexact HO
    isplitr
    · iapply (mayWait c (.dma (dsem f k)) l (fun x hx => (congrArg clv (dec_csem (some (f, k)))).trans_lt (hl x hx)))
      iapply (lev_at m K); iexact Hc
    iexact Hat
  iintro ⟨HO, Hat, -, Hpay⟩
  ihave Hp := (Entails.of_eq (rest_dma m c f k)) $$ Hpay
  imod (Rounds.cell_close ER (Rd m) (Set.mem_univ (K (c, some (f, k)))) (fun h => h) (R := 0 + 1) (Rd_later m (kcell (c, some (f, k))))) $$ [Hat] with Hz
  · isplitr; · iexact HI
    iexact Hat
  iapply Hk
  isplitl [HO]; · iexists _; iexact HO
  isplitl [Hp]; · iexact Hp
  iexact Hz

/-- A copy within a device of a piece held (at a share) at `X`: the right to wait for it. -/
theorem wp_copy_piece (f : Fin 7) (k : Fin 8) {sp sp' : Space} {s : Shape} {e : EltTy} {src : Memref sig .tc sp s e} {dst : Memref sig .tc sp' s e}
    {hs : src.view.WordExact} {hd : dst.view.WordExact} {ht : DmaTarget.Typed (nD := nD) (τ := τ) (p := .tc) sp (.dma (dsem f k)) (.here dst)} {k' : PUnit → PR F}
    (hN : dst.view.dmaCredit = N f k) (q : PosShare TreeShare) (X : s.Idx → Elt F e)
    (hpay : iprop(own c dst X ∗ owns (c : Thread nD τ) src q X) ⊢ dmaPay m c k f) :
    iprop(ctx m K ∗ owns (c : Thread nD τ) src q X ∗ some_ c dst ∗ tok c f k)
      ⊢ iprop((credit c f k -∗ WP c (k' ⟨⟩) Q) -∗ WP c (.op (.enqueueDma src (.here dst) (.dma (dsem f k)) hs hd ht) k') Q) := by
  iintro ⟨#Hc, Hs, ⟨%Y, Hd⟩, Ht⟩ Hk
  ihave #HI := (inv_at m K (c, some (f, k))) $$ Hc
  ihave #HR := (reached_at m K (c, some (f, k))) $$ Hc
  ihave Hs' := (show owns (c : Thread nD τ) src q X ⊢ iprop(∃ g, ⌜src.view.read (Elt F) g = X⌝ ∗ (src.view.loc (c : Thread nD τ) ↦[src.view.set]{q} g)) from .rfl) $$ Hs
  icases Hs' with ⟨%g, %hg, Hs⟩
  ihave Hd' := (show own c dst Y ⊢ iprop(∃ g, ⌜dst.view.read (Elt F) g = Y⌝ ∗ (dst.view.loc (c : Thread nD τ) ↦[dst.view.set]{fullShare} g)) from .rfl) $$ Hd
  icases Hd' with ⟨%gd, -, Hd⟩
  iapply (Rounds.wp_copy_pointsTo 𝒱₀ ER (Rd m) (c : Thread nD τ) none (κ := K (c, some (f, k))) (r := 0) (d := false) (fd := gd) (fs := g) (q := q)
      (show false ∈ (Rd m).duties (kcell (c, some (f, k))) 0 by rw [Rd_duties]; exact Finset.mem_singleton_self _) () (N f k) hN
      (Rd_amount m (c, some (f, k)) 0 false)
      ((show _ ⊢ dmaPay m c k f from by
          subst hg
          refine BIBase.Entails.trans ?_ hpay
          iintro ⟨H1, H2⟩
          isplitl [H1]
          · unfold own owns
            iexists _
            isplitr
            rotate_left
            · iexact H1
            · ipureintro; exact View.read_write_univ _ _
          · iapply (owns_intro (c : Thread nD τ) src q g); iexact H2).trans
        (Entails.of_eq (Rd_payload m (c, some (f, k)) 0 false).symm))) $$ [Hs Hd Ht]
  · isplitr; · iexact HI
    isplitl [Hs]; · iexact Hs
    isplitl [Hd]; · iexact Hd
    isplitl [Ht]; · iexact Ht
    iexact HR
  iexact Hk

/-- A send to device `d` of a piece held (at a share) at `X`, onto a piece of `d`'s: the debt to `d`'s cell is paid. -/
theorem wp_send_piece (f f' : Fin 7) (k : Fin 8) (d : Dev nD) (l : List (Dev nD × CI)) {sp sp' : Space} {s : Shape} {e : EltTy}
    {src : Memref sig .tc sp s e} {dst : Memref sig .tc sp' s e} {hsc : dst.view.ref.isScScratch = false}
    {hs : src.view.WordExact} {hd : dst.view.WordExact}
    {ht : DmaTarget.Typed (p := .tc) sp (.dma (dsem f' k)) (.remote (Dev.tc d : Thread nD τ) dst (.dma (dsem f k)) hsc)} {k' : PUnit → PR F}
    (hN : dst.view.dmaCredit = N f' k) (hN' : dst.view.dmaCredit = N f k) (q : PosShare TreeShare) (X : s.Idx → Elt F e)
    (hpay : owns (c : Thread nD τ) src q X ⊢ dmaPay m c k f) (hpay' : own d dst X ⊢ dmaPay m d k f')  :
    iprop(ctx m K ∗ owesX c ((d, some (f', k)) :: l) ∗ owns (c : Thread nD τ) src q X ∗ some_ d dst ∗ tok c f k ∗ tok d f' k)
      ⊢ iprop(((credit c f k ∗ owesX c l) -∗ WP c (k' ⟨⟩) Q)
        -∗ WP c (.op (.enqueueDma src (.remote (Dev.tc d : Thread nD τ) dst (.dma (dsem f k)) hsc) (.dma (dsem f' k)) hs hd ht) k') Q) := by
  unfold owesX
  iintro ⟨#Hc, ⟨%W, HO⟩, Hs, ⟨%Y, Hd⟩, Ht, Ht'⟩ Hk
  ihave #HI := (inv_at m K (c, some (f, k))) $$ Hc
  ihave #HR := (reached_at m K (c, some (f, k))) $$ Hc
  ihave #HI' := (inv_at m K (d, some (f', k))) $$ Hc
  ihave #HR' := (reached_at m K (d, some (f', k))) $$ Hc
  ihave Hs' := (show owns (c : Thread nD τ) src q X ⊢ iprop(∃ g, ⌜src.view.read (Elt F) g = X⌝ ∗ (src.view.loc (c : Thread nD τ) ↦[src.view.set]{q} g)) from .rfl) $$ Hs
  icases Hs' with ⟨%g, %hg, Hs⟩
  ihave Hd' := (show own d dst Y ⊢ iprop(∃ g, ⌜dst.view.read (Elt F) g = Y⌝ ∗ (dst.view.loc (d : Thread nD τ) ↦[dst.view.set]{fullShare} g)) from .rfl) $$ Hd
  icases Hd' with ⟨%gd, -, Hd⟩
  iapply (Rounds.wp_send_pointsTo 𝒱₀ ER (Rd m) (c : Thread nD τ) none (κ₁ := K (c, some (f, k))) (κ₂ := K (d, some (f', k))) (r₁ := 0) (r₂ := 0)
      (d₁ := false) (d₂ := false) (fd := gd) (fs := g) (q := q) (c' := (d : Thread nD τ))
      (show false ∈ (Rd m).duties (kcell (c, some (f, k))) 0 by rw [Rd_duties]; exact Finset.mem_singleton_self _)
      (show false ∈ (Rd m).duties (kcell (d, some (f', k))) 0 by rw [Rd_duties]; exact Finset.mem_singleton_self _)
      () () (N f k) hN' (Rd_amount m (c, some (f, k)) 0 false) ((Rd_amount m (d, some (f', k)) 0 false).trans (hN.symm.trans hN')) (owed l)
      (by show owed l + tallyAt (kcell (d, some (f', k))) () (N f' k) = _; rw [hN.symm.trans hN']) (W := W)
      ((show _ ⊢ dmaPay m c k f from by
          subst hg
          exact (owns_intro (c : Thread nD τ) src q g).trans hpay).trans (Entails.of_eq (Rd_payload m (c, some (f, k)) 0 false).symm))
      ((show _ ⊢ dmaPay m d k f' from by
          subst hg
          refine BIBase.Entails.trans ?_ hpay'
          iintro H1
          unfold own owns
          iexists _
          isplitr
          rotate_left
          · iexact H1
          · ipureintro; exact View.read_write_univ _ _).trans
        (Entails.of_eq (Rd_payload m (d, some (f', k)) 0 false).symm))) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hcr, HO⟩
  iapply Hk
  isplitl [Hcr]; · iexact Hcr
  iexists W
  iexact HO

end Cert.KernelIdeal.Chunked

end
-- ==== Proof.Rules.lean ====
/- What each step of the body needs and leaves, for any chunk, from the general rules of `Transfers`; and the rule that
   runs a step over a list of chunks, its needs and its leavings chunk by chunk. -/
module

public import proofs.«01_k».proof.Proof.Transfers
public import Idealize.ShloMosaic.Lib.MemrefSat

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Chunk `k` of the narrowed `dy`. -/
abbrev mDyh (k : Fin 8) : Memref sig .tc .vmem (SD k) .bf16 := aDyh.slice (rD k) (fun _ => rfl)

/-! ## What the steps need and leave -/

def copyPre (c : Dev nD) (k : Fin 8) : sProp 𝕄 := iprop(own c (mDy k) (DYc m c k) ∗ some_ c (mDyf k) ∗ tok c 0 k)

def headPre (c : Dev nD) (k : Fin 8) : sProp 𝕄 := iprop(credit c 0 k ∗ pos c 0 k ∗ some_ c (mDyh k) ∗ some_ c (mXs k))
/-- What the first wait of a chunk gives for good: `dy`'s chunk back, its copy, and its narrowed form. -/
def headKeep (c : Dev nD) (k : Fin 8) : sProp 𝕄 := iprop(dmaPay m c k 0 ∗ zero c 0 k ∗ own c (mDyh k) (DYhc m c k))

/-- What a partial product's send needs besides the product. -/
def sendGo (c : Dev nD) (k : Fin 8) : sProp 𝕄 := iprop(some_ (xp c) (mXr k) ∗ tok c 1 k ∗ tok (xp c) 2 k)

def combinePre (c : Dev nD) (k : Fin 8) : sProp 𝕄 :=
  iprop(credit c 2 k ∗ pos c 2 k ∗ some_ c (mYs k) ∗ some_ (yp c) (mYr k) ∗ tok c 3 k ∗ tok (yp c) 4 k ∗ some_ c (mO c k) ∗ tok c 5 k)
def combinePost (c : Dev nD) (k : Fin 8) : sProp 𝕄 :=
  iprop(dmaPay m c k 2 ∗ zero c 2 k ∗ credit c 3 k ∗ credit c 5 k)

def forwardPre (c : Dev nD) (k : Fin 8) : sProp 𝕄 := iprop(credit c 4 k ∗ pos c 4 k ∗ some_ c (mT c k) ∗ tok c 6 k)
def forwardPost (c : Dev nD) (k : Fin 8) : sProp 𝕄 := iprop(zero c 4 k ∗ credit c 6 k)

def drainPre (c : Dev nD) (k : Fin 8) : sProp 𝕄 :=
  iprop((credit c 5 k ∗ pos c 5 k) ∗ (credit c 6 k ∗ pos c 6 k) ∗ (credit c 1 k ∗ pos c 1 k) ∗ (credit c 3 k ∗ pos c 3 k))
def drainPost (c : Dev nD) (k : Fin 8) : sProp 𝕄 :=
  iprop((dmaPay m c k 5 ∗ zero c 5 k) ∗ (dmaPay m c k 6 ∗ zero c 6 k) ∗ (dmaPay m c k 1 ∗ zero c 1 k) ∗ (dmaPay m c k 3 ∗ zero c 3 k))

variable {m} {K : Dev nD × CI → ℕ} {Q : PUnit.{1} → sProp (MT nD τ sig Unit (Elt F) ℕ UU ℕ)} (c : Dev nD) (k : Fin 8)

/-! ## The steps -/

theorem wp_copyIn (K' : PR F) :
    iprop(ctx m K ∗ copyPre m c k) ⊢ iprop((credit c 0 k -∗ WP c K' Q) -∗ WP c (copyIn k K') Q) := by
  unfold copyPre copyIn
  iintro ⟨#Hc, Hs, Hd, Ht⟩ Hk
  iapply (wp_copy_piece (m := m) (K := K) c 0 k (src := mDy k) (dst := mDyf k) rfl fullShare (DYc m c k) .rfl) $$ [Hs Hd Ht]
  · isplitr; · iexact Hc
    isplitl [Hs]; · iexact Hs
    isplitl [Hd]; · iexact Hd
    iexact Ht
  iexact Hk

theorem wp_head (l : List (Dev nD × CI)) (hl : ∀ x ∈ l, 0 < clv x.2) (K' : PR F) :
    iprop(ctx m K ∗ owesX c l ∗ headPre c k)
      ⊢ iprop(((owesX c l ∗ headKeep m c k ∗ own c (mXs k) (XS m c k)) -∗ WP c K' Q) -∗ WP c (head k (xb m c) K') Q) := by
  unfold headPre head
  iintro ⟨#Hc, HO, Hcr, Hat, ⟨%v₁, Hh⟩, ⟨%v₂, Hx⟩⟩ Hk
  iapply (wp_wait_dma (m := m) (K := K) c 0 k l hl (src := mDy k) (dst := mDyf k) rfl) $$ [HO Hcr Hat]
  · isplitr; · iexact Hc
    isplitl [HO]; · iexact HO
    isplitl [Hcr]; · iexact Hcr
    iexact Hat
  iintro ⟨HO, Hp, Hz⟩
  ihave Hp := (show dmaPay m c k 0 ⊢ iprop(own c (mDyf k) (DYc m c k) ∗ own c (mDy k) (DYc m c k)) from .rfl) $$ Hp
  icases Hp with ⟨Hf, Hd⟩
  iapply (wp_load_piece c aDyf (rD k) (fun _ => rfl) fullShare (DYc m c k)) $$ Hf
  iintro Hf
  iapply (wp_load_piece c aDyh (rD k) (fun _ => rfl) fullShare v₁) $$ Hh
  iintro Hh
  iapply (wp_store_piece c aDyh (rD k) (fun _ => rfl) v₁) $$ Hh
  iintro Hh
  ihave Hh := (Entails.of_eq (show own c (mDyh k) (payD k (DYc m c k)) = own c (mDyh k) (DYhc m c k) by rw [payD_eq])) $$ Hh
  iapply (wp_load_piece c aDyh (rD k) (fun _ => rfl) fullShare (DYhc m c k)) $$ Hh
  iintro Hh
  iapply (wp_load_piece c aXs (rX k) (fun _ => rfl) fullShare v₂) $$ Hx
  iintro Hx
  iapply (wp_store_piece c aXs (rX k) (fun _ => rfl) v₂) $$ Hx
  iintro Hx
  iapply Hk
  unfold headKeep
  isplitl [HO]; · iexact HO
  isplitr [Hx]
  · isplitl [Hf Hd]
    · iapply (show iprop(own c (mDyf k) (DYc m c k) ∗ own c (mDy k) (DYc m c k)) ⊢ dmaPay m c k 0 from .rfl)
      isplitl [Hf]; · iexact Hf
      iexact Hd
    isplitl [Hz]; · iexact Hz
    iexact Hh
  iexact Hx

theorem wp_sendX (l : List (Dev nD × CI)) (d : Dev nD) (hd : d = xp c) (K' : PR F) :
    iprop(ctx m K ∗ owesX c (dX c k :: l) ∗ own c (mXs k) (XS m c k) ∗ sendGo c k)
      ⊢ iprop(((owesX c l ∗ credit c 1 k) -∗ WP c K' Q) -∗ WP c (sendX k d K') Q) := by
  subst hd
  unfold sendGo sendX
  iintro ⟨#Hc, HO, Hs, Hd, Ht, Ht'⟩ Hk
  iapply (wp_send_piece (m := m) (K := K) c 1 2 k (xp c) l (src := mXs k) (dst := mXr k) rfl rfl fullShare (XS m c k) .rfl
      (Entails.of_eq (show _ = own (xp c) (mXr k) (XS m (xp (xp c)) k) by rw [xp_xp]))) $$ [HO Hs Hd Ht Ht']
  · isplitr; · iexact Hc
    isplitl [HO]; · iexact HO
    isplitl [Hs]; · iexact Hs
    isplitl [Hd]; · iexact Hd
    isplitl [Ht]; · iexact Ht
    iexact Ht'
  iintro ⟨Hcr, HO⟩
  iapply Hk
  isplitl [HO]; · iexact HO
  iexact Hcr

theorem wp_head_send (l : List (Dev nD × CI)) (hl : ∀ x ∈ dX c k :: l, 0 < clv x.2) (d : Dev nD) (hd : d = xp c) (K' : PR F) :
    iprop(ctx m K ∗ owesX c (dX c k :: l) ∗ headPre c k ∗ sendGo c k)
      ⊢ iprop(((owesX c l ∗ headKeep m c k ∗ credit c 1 k) -∗ WP c K' Q) -∗ WP c (head k (xb m c) (sendX k d K')) Q) := by
  iintro ⟨#Hc, HO, Hp, Hg⟩ Hk
  iapply (wp_head (m := m) (K := K) c k (dX c k :: l) hl _) $$ [HO Hp]
  · isplitr; · iexact Hc
    isplitl [HO]; · iexact HO
    iexact Hp
  iintro ⟨HO, Hkeep, Hx⟩
  iapply (wp_sendX (m := m) (K := K) c k l d hd K') $$ [HO Hx Hg]
  · isplitr; · iexact Hc
    isplitl [HO]; · iexact HO
    isplitl [Hx]; · iexact Hx
    iexact Hg
  iintro ⟨HO, Hcr⟩
  iapply Hk
  isplitl [HO]; · iexact HO
  isplitl [Hkeep]; · iexact Hkeep
  iexact Hcr

theorem wp_combine (l : List (Dev nD × CI)) (hl : ∀ x ∈ dY c k :: l, 2 < clv x.2) (d : Dev nD) (hd : d = yp c) (K' : PR F) :
    iprop(ctx m K ∗ owesX c (dY c k :: l) ∗ combinePre c k)
      ⊢ iprop(((owesX c l ∗ combinePost m c k) -∗ WP c K' Q)
        -∗ WP c (combine k (AA m c) d (offO c k) (offO_inb c k) (offO_words c k) K') Q) := by
  subst hd
  unfold combinePre combine
  iintro ⟨#Hc, HO, Hcr, Hat, ⟨%v, Hs⟩, Hd, Ht3, Ht4, Ho, Ht5⟩ Hk
  iapply (wp_wait_dma (m := m) (K := K) c 2 k (dY c k :: l) hl (src := mXs k) (dst := mXr k) rfl) $$ [HO Hcr Hat]
  · isplitr; · iexact Hc
    isplitl [HO]; · iexact HO
    isplitl [Hcr]; · iexact Hcr
    iexact Hat
  iintro ⟨HO, Hp, Hz⟩
  ihave Hr := (show dmaPay m c k 2 ⊢ own c (mXr k) (XS m (xp c) k) from .rfl) $$ Hp
  iapply (wp_load_piece c aXr (rX k) (fun _ => rfl) fullShare (XS m (xp c) k)) $$ Hr
  iintro Hr
  iapply (wp_load_piece c aYs (rX k) (fun _ => rfl) fullShare v) $$ Hs
  iintro Hs
  iapply (wp_store_piece c aYs (rX k) (fun _ => rfl) v) $$ Hs
  iintro Hs
  ihave Hs2 := (show own c (mYs k) (payY k (AA m c) (XS m (xp c) k)) ⊢ iprop(ownL c (mYs k) (YS m c k) ∗ ownR c (mYs k) (YS m c k)) from
    (owns_halves (Val := Elt F) (c : Thread nD τ) (mYs k) fullShare (YS m c k)).1) $$ Hs
  icases Hs2 with ⟨HsL, HsR⟩
  iapply (wp_send_piece (m := m) (K := K) c 3 4 k (yp c) l (src := mYs k) (dst := mYr k) rfl rfl fullShare.left (YS m c k) .rfl
      (Entails.of_eq (show _ = own (yp c) (mYr k) (YS m (yp (yp c)) k) by rw [yp_yp]))) $$ [HO HsL Hd Ht3 Ht4]
  · isplitr; · iexact Hc
    isplitl [HO]; · iexact HO
    isplitl [HsL]; · iexact HsL
    isplitl [Hd]; · iexact Hd
    isplitl [Ht3]; · iexact Ht3
    iexact Ht4
  iintro ⟨Hcr3, HO⟩
  iapply (wp_copy_piece (m := m) (K := K) c 5 k (src := mYs k) (dst := mO c k) rfl fullShare.right (YS m c k) .rfl) $$ [HsR Ho Ht5]
  · isplitr; · iexact Hc
    isplitl [HsR]; · iexact HsR
    isplitl [Ho]; · iexact Ho
    iexact Ht5
  iintro Hcr5
  iapply Hk
  unfold combinePost
  isplitl [HO]; · iexact HO
  isplitl [Hr]; · iapply (show own c (mXr k) (XS m (xp c) k) ⊢ dmaPay m c k 2 from .rfl); iexact Hr
  isplitl [Hz]; · iexact Hz
  isplitl [Hcr3]; · iexact Hcr3
  iexact Hcr5

theorem wp_forward (K' : PR F) :
    iprop(ctx m K ∗ owesX c [] ∗ forwardPre c k)
      ⊢ iprop(((owesX c [] ∗ forwardPost c k) -∗ WP c K' Q)
        -∗ WP c (forward k (offT c k) (offT_inb c k) (offT_words c k) K') Q) := by
  unfold forwardPre forward
  iintro ⟨#Hc, HO, Hcr, Hat, Ho, Ht⟩ Hk
  iapply (wp_wait_dma (m := m) (K := K) c 4 k [] (fun x hx => absurd hx List.not_mem_nil) (src := mYs k) (dst := mYr k) rfl) $$ [HO Hcr Hat]
  · isplitr; · iexact Hc
    isplitl [HO]; · iexact HO
    isplitl [Hcr]; · iexact Hcr
    iexact Hat
  iintro ⟨HO, Hp, Hz⟩
  ihave Hr := (show dmaPay m c k 4 ⊢ own c (mYr k) (YS m (yp c) k) from .rfl) $$ Hp
  iapply (wp_copy_piece (m := m) (K := K) c 6 k (src := mYr k) (dst := mT c k) rfl fullShare (YS m (yp c) k) .rfl) $$ [Hr Ho Ht]
  · isplitr; · iexact Hc
    isplitl [Hr]; · iexact Hr
    isplitl [Ho]; · iexact Ho
    iexact Ht
  iintro Hcr
  iapply Hk
  unfold forwardPost
  isplitl [HO]; · iexact HO
  isplitl [Hz]; · iexact Hz
  iexact Hcr

theorem wp_drain (K' : PR F) :
    iprop(ctx m K ∗ owesX c [] ∗ drainPre c k)
      ⊢ iprop(((owesX c [] ∗ drainPost m c k) -∗ WP c K' Q)
        -∗ WP c (drain k (offO c k) (offO_inb c k) (offO_words c k) (offT c k) (offT_inb c k) (offT_words c k) K') Q) := by
  unfold drainPre drain
  iintro ⟨#Hc, HO, ⟨Hc5, Ha5⟩, ⟨Hc6, Ha6⟩, ⟨Hc1, Ha1⟩, ⟨Hc3, Ha3⟩⟩ Hk
  iapply (wp_wait_dma (m := m) (K := K) c 5 k [] (fun x hx => absurd hx List.not_mem_nil) (src := mYs k) (dst := mO c k) rfl) $$ [HO Hc5 Ha5]
  · isplitr; · iexact Hc
    isplitl [HO]; · iexact HO
    isplitl [Hc5]; · iexact Hc5
    iexact Ha5
  iintro ⟨HO, H5⟩
  iapply (wp_wait_dma (m := m) (K := K) c 6 k [] (fun x hx => absurd hx List.not_mem_nil) (src := mYr k) (dst := mT c k) rfl) $$ [HO Hc6 Ha6]
  · isplitr; · iexact Hc
    isplitl [HO]; · iexact HO
    isplitl [Hc6]; · iexact Hc6
    iexact Ha6
  iintro ⟨HO, H6⟩
  iapply (wp_wait_dma (m := m) (K := K) c 1 k [] (fun x hx => absurd hx List.not_mem_nil) (src := mXr k) (dst := mXs k) rfl) $$ [HO Hc1 Ha1]
  · isplitr; · iexact Hc
    isplitl [HO]; · iexact HO
    isplitl [Hc1]; · iexact Hc1
    iexact Ha1
  iintro ⟨HO, H1⟩
  iapply (wp_wait_dma (m := m) (K := K) c 3 k [] (fun x hx => absurd hx List.not_mem_nil) (src := mYr k) (dst := mYs k) rfl) $$ [HO Hc3 Ha3]
  · isplitr; · iexact Hc
    isplitl [HO]; · iexact HO
    isplitl [Hc3]; · iexact Hc3
    iexact Ha3
  iintro ⟨HO, H3⟩
  iapply Hk
  unfold drainPost
  isplitl [HO]; · iexact HO
  isplitl [H5]; · iexact H5
  isplitl [H6]; · iexact H6
  isplitl [H1]; · iexact H1
  iexact H3

/-! ## A step over a list of chunks -/

/-- A resource for each chunk listed. -/
abbrev over (l : List (Fin 8)) (Φ : Fin 8 → sProp 𝕄) : sProp 𝕄 := bigSepM (l : Multiset (Fin 8)) Φ

theorem over_nil (Φ : Fin 8 → sProp 𝕄) : over [] Φ = iprop(emp) := rfl
theorem over_cons (k : Fin 8) (l : List (Fin 8)) (Φ : Fin 8 → sProp 𝕄) : over (k :: l) Φ = iprop(Φ k ∗ over l Φ) := by
  unfold over
  rw [← Multiset.cons_coe, bigSepM_cons]
  rfl
/-- Every chunk, as the list of them. -/
theorem over_chunks (Φ : Fin 8 → sProp 𝕄) : over chunks Φ = bigSep Finset.univ Φ := by
  unfold over bigSep
  exact congrArg (fun s => bigSepM s Φ) (by decide)
/-- The first two chunks, then the rest. -/
theorem over_split (Φ : Fin 8 → sProp 𝕄) : over chunks Φ = iprop(over [0, 1] Φ ∗ over [2, 3, 4, 5, 6, 7] Φ) :=
  bigSepM_add (([0, 1] : List (Fin 8)) : Multiset (Fin 8)) (([2, 3, 4, 5, 6, 7] : List (Fin 8)) : Multiset (Fin 8)) Φ

/-- If a step takes `P k` to `R k`, and the state `I` from before the chunk to after it, then the step over a list takes
    every `P` to every `R`, and `I` to the end of the list. -/
theorem wp_each (f : Fin 8 → PR F → PR F) (C : sProp 𝕄) [BI.Persistent C] (I : List (Fin 8) → sProp 𝕄) (P R : Fin 8 → sProp 𝕄) :
    ∀ l : List (Fin 8),
      (∀ k l' K', k ∈ l → (∀ j ∈ l', j ∈ l) → iprop(C ∗ I (k :: l') ∗ P k) ⊢ iprop(((I l' ∗ R k) -∗ WP c K' Q) -∗ WP c (f k K') Q)) →
      ∀ K', iprop(C ∗ I l ∗ over l P) ⊢ iprop(((I [] ∗ over l R) -∗ WP c K' Q) -∗ WP c (each l f K') Q)
  | [], _, K' => by
    rw [over_nil, over_nil]
    iintro ⟨-, HI, He⟩ Hk
    iapply Hk
    isplitl [HI]; · iexact HI
    iexact He
  | k :: l, h, K' => by
    rw [over_cons, over_cons]
    have ih := wp_each f C I P R l (fun j l' K'' hj hl' => h j l' K'' (List.mem_cons_of_mem _ hj) fun i hi => List.mem_cons_of_mem _ (hl' i hi)) K'
    iintro ⟨#HC, HI, Hp, HP⟩ Hk
    iapply (show iprop(C ∗ I (k :: l) ∗ P k) ⊢ iprop(((I l ∗ R k) -∗ WP c (each l f K') Q) -∗ WP c (each (k :: l) f K') Q) from
      h k l _ List.mem_cons_self fun j hj => List.mem_cons_of_mem _ hj) $$ [HI Hp]
    · isplitr; · iexact HC
      isplitl [HI]; · iexact HI
      iexact Hp
    iintro ⟨HI, HR⟩
    iapply ih $$ [HI HP]
    · isplitr; · iexact HC
      isplitl [HI]; · iexact HI
      iexact HP
    iintro ⟨HI, HRs⟩
    iapply Hk
    isplitl [HI]; · iexact HI
    isplitl [HR]; · iexact HR
    iexact HRs

end Cert.KernelIdeal.Chunked

end
-- ==== Proof.Pieces.lean ====
/- The arrays CUT INTO CHUNKS and put together again: the eight column chunks of an array with all its rows, and the
   sixteen pieces of the result, eight chunks for each of its two halves of rows. -/
module

public import proofs.«01_k».proof.Proof.Rules

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The column ranges -/

/-- Two chunks' column ranges do not meet. -/
theorem off_apart (k k' : Fin 8) (h : k ≠ k') : off k + wd k ≤ off k' ∨ off k' + wd k' ≤ off k := by
  revert k k'; decide
/-- Every column lies in some chunk. -/
theorem off_cover (j : ℕ) (hj : j < 4096) : ∃ k, off k ≤ j ∧ j < off k + wd k := by
  by_cases h1 : j < 256; · exact ⟨0, Nat.zero_le _, h1⟩
  by_cases h2 : j < 640; · exact ⟨1, Nat.le_of_not_lt h1, h2⟩
  by_cases h3 : j < 1152; · exact ⟨2, Nat.le_of_not_lt h2, h3⟩
  by_cases h4 : j < 1792; · exact ⟨3, Nat.le_of_not_lt h3, h4⟩
  by_cases h5 : j < 2560; · exact ⟨4, Nat.le_of_not_lt h4, h5⟩
  by_cases h6 : j < 3328; · exact ⟨5, Nat.le_of_not_lt h5, h6⟩
  by_cases h7 : j < 3840; · exact ⟨6, Nat.le_of_not_lt h6, h7⟩
  exact ⟨7, Nat.le_of_not_lt h7, hj⟩

theorem rD_disj (k k' : Fin 8) (h : k ≠ k') : Disjoint (rD k).set (rD k').set :=
  Rect.unit_disjoint 1 (off_apart k k' h)
theorem rX_disj (k k' : Fin 8) (h : k ≠ k') : Disjoint (rX k).set (rX k').set :=
  Rect.unit_disjoint 1 (off_apart k k' h)
theorem rD_cover : Finset.univ.biUnion (fun k => (rD k).set) = Finset.univ := by
  refine Finset.eq_univ_iff_forall.mpr fun i => Finset.mem_biUnion.mpr ?_
  obtain ⟨k, h1, h2⟩ := off_cover (i 1).val (i 1).isLt
  exact ⟨k, Finset.mem_univ _, Rect.mem_set_unit.mpr (Fin.forall_fin_two.mpr
    ⟨⟨Nat.zero_le _, lt_of_lt_of_eq (i 0).isLt (Nat.zero_add 1024).symm⟩, h1, h2⟩)⟩
theorem rX_cover : Finset.univ.biUnion (fun k => (rX k).set) = Finset.univ := by
  refine Finset.eq_univ_iff_forall.mpr fun i => Finset.mem_biUnion.mpr ?_
  obtain ⟨k, h1, h2⟩ := off_cover (i 1).val (i 1).isLt
  exact ⟨k, Finset.mem_univ _, Rect.mem_set_unit.mpr (Fin.forall_fin_two.mpr
    ⟨⟨Nat.zero_le _, lt_of_lt_of_eq (i 0).isLt (Nat.zero_add 256).symm⟩, h1, h2⟩)⟩

/-! ## The result's pieces -/

theorem offO_eq (c : Dev nD) (k : Fin 8) : offO c k = ![c.val % 2 * 256, off k] := by revert c k; decide
theorem offT_eq (c : Dev nD) (k : Fin 8) : offT c k = ![(1 - c.val % 2) * 256, off k] := by revert c k; decide

/-- A piece of the result: chunk `k` of the device's own rows, or of the other rows. -/
abbrev rOut (c : Dev nD) : Fin 8 ⊕ Fin 8 → Rect S512x4096
  | .inl k => Rect.unit (s := S512x4096) (offO c k) (SX k).size (offO_inb c k)
  | .inr k => Rect.unit (s := S512x4096) (offT c k) (SX k).size (offT_inb c k)

theorem rOut_stride (c : Dev nD) : ∀ t a, (rOut c t).stride a = 1
  | .inl _, _ => rfl
  | .inr _, _ => rfl

theorem rOut_disj (c : Dev nD) : ∀ t t', t ≠ t' → Disjoint (rOut c t).set (rOut c t').set
  | .inl k, .inl k', h => by
    refine Rect.unit_disjoint 1 ?_
    rw [offO_eq, offO_eq]
    exact off_apart k k' fun e => h (congrArg Sum.inl e)
  | .inr k, .inr k', h => by
    refine Rect.unit_disjoint 1 ?_
    rw [offT_eq, offT_eq]
    exact off_apart k k' fun e => h (congrArg Sum.inr e)
  | .inl k, .inr k', _ => by
    refine Rect.unit_disjoint 0 ?_
    rw [offO_eq, offT_eq]
    show c.val % 2 * 256 + 256 ≤ (1 - c.val % 2) * 256 ∨ (1 - c.val % 2) * 256 + 256 ≤ c.val % 2 * 256
    omega
  | .inr k, .inl k', _ => by
    refine Rect.unit_disjoint 0 ?_
    rw [offO_eq, offT_eq]
    show (1 - c.val % 2) * 256 + 256 ≤ c.val % 2 * 256 ∨ c.val % 2 * 256 + 256 ≤ (1 - c.val % 2) * 256
    omega

theorem rOut_cover (c : Dev nD) : Finset.univ.biUnion (fun t => (rOut c t).set) = Finset.univ := by
  refine Finset.eq_univ_iff_forall.mpr fun i => Finset.mem_biUnion.mpr ?_
  obtain ⟨k, h1, h2⟩ := off_cover (i 1).val (i 1).isLt
  have hi : (i 0).val < 512 := (i 0).isLt
  by_cases h : (i 0).val / 256 = c.val % 2
  · refine ⟨.inl k, Finset.mem_univ _, Rect.mem_set_unit.mpr ?_⟩
    rw [offO_eq]
    refine Fin.forall_fin_two.mpr ⟨?_, h1, h2⟩
    show c.val % 2 * 256 ≤ (i 0).val ∧ (i 0).val < c.val % 2 * 256 + 256
    omega
  · refine ⟨.inr k, Finset.mem_univ _, Rect.mem_set_unit.mpr ?_⟩
    rw [offT_eq]
    refine Fin.forall_fin_two.mpr ⟨?_, h1, h2⟩
    show (1 - c.val % 2) * 256 ≤ (i 0).val ∧ (i 0).val < (1 - c.val % 2) * 256 + 256
    omega

/-! ## Cutting and putting together -/

/-- Known contents are some contents. -/
theorem some_intro {sp : Space} {s : Shape} {e : EltTy} (c : Dev nD) (b : Memref sig .tc sp s e) (v : s.Idx → Elt F e) :
    (own c b v : sProp 𝕄) ⊢ some_ c b := by
  iintro H; iexists v; iexact H

section Any
variable {sp : Space} {s : Shape} {e : EltTy} {T : Type} [Fintype T] [DecidableEq T] (c : Dev nD) (b : Memref sig .tc sp s e)
  (r : T → Rect s) (hr : ∀ t a, (r t).stride a = 1) (hd : ∀ t t', t ≠ t' → Disjoint (r t).set (r t').set)
  (hcov : Finset.univ.biUnion (fun t => (r t).set) = Finset.univ)
include hd hcov

/-- An array at some contents is its pieces at some contents. -/
theorem some_cut : (some_ c b : sProp 𝕄) ⊢ bigSep Finset.univ fun t => some_ c (b.slice (r t) (hr t)) := by
  iintro ⟨%v, H⟩
  iapply (show (own c b v : sProp 𝕄) ⊢ bigSep Finset.univ fun t => some_ c (b.slice (r t) (hr t)) from
    (owns_rects (c : Thread nD τ) b fullShare r hr hd hcov v).trans (bigSep_mono fun t _ => some_intro c (b.slice (r t) (hr t)) _))
  iexact H

/-- Pieces at some contents are the array at some contents. -/
theorem some_glue : (bigSep Finset.univ fun t => some_ c (b.slice (r t) (hr t)) : sProp 𝕄) ⊢ some_ c b :=
  (bigSep_mono fun t _ => (ownsSat_true (Val := Elt F) (c : Thread nD τ) (b.slice (r t) (hr t)) fullShare).2).trans
    ((ownsSat_of_rects (Val := Elt F) (c : Thread nD τ) b fullShare r hr hd hcov (fun _ _ => True)).trans
      (ownsSat_any (Val := Elt F) (Φ := fun _ => ∀ t : T, True) (c : Thread nD τ) b fullShare))
end Any

section Chunks
variable (c : Dev nD)

/-- The device's block of `dy` is its chunks; -/
theorem dy_cut : (own c aDy (dyv m c) : sProp 𝕄) ⊢ bigSep Finset.univ fun k => own c (mDy k) (DYc m c k) :=
  owns_rects (c : Thread nD τ) aDy fullShare rD (fun _ _ => rfl) rD_disj rD_cover (dyv m c)
/-- and the chunks are the block. -/
theorem dy_glue : (bigSep Finset.univ fun k => own c (mDy k) (DYc m c k) : sProp 𝕄) ⊢ own c aDy (dyv m c) :=
  owns_of_rects (Val := Elt F) (c : Thread nD τ) aDy fullShare rD (fun _ _ => rfl) rD_disj rD_cover (dyv m c)
/-- The chunks of the narrowed block are it whole. -/
theorem dyh_glue : (bigSep Finset.univ fun k => own c (mDyh k) (DYhc m c k) : sProp 𝕄) ⊢ own c aDyh (DYh m c) :=
  owns_of_rects (Val := Elt F) (c : Thread nD τ) aDyh fullShare rD (fun _ _ => rfl) rD_disj rD_cover (DYh m c)

/-- Any array of 1024 rows, and any of 256, cut into chunks at some contents and put together. -/
theorem someD_cut {sp : Space} {e : EltTy} (b : Memref sig .tc sp S1024x4096 e) :
    (some_ c b : sProp 𝕄) ⊢ bigSep Finset.univ fun k => some_ c (b.slice (rD k) (fun _ => rfl)) :=
  some_cut c b rD (fun _ _ => rfl) rD_disj rD_cover
theorem someD_glue {sp : Space} {e : EltTy} (b : Memref sig .tc sp S1024x4096 e) :
    (bigSep Finset.univ fun k => some_ c (b.slice (rD k) (fun _ => rfl)) : sProp 𝕄) ⊢ some_ c b :=
  some_glue c b rD (fun _ _ => rfl) rD_disj rD_cover
theorem someX_cut {sp : Space} {e : EltTy} (b : Memref sig .tc sp S256x4096 e) :
    (some_ c b : sProp 𝕄) ⊢ bigSep Finset.univ fun k => some_ c (b.slice (rX k) (fun _ => rfl)) :=
  some_cut c b rX (fun _ _ => rfl) rX_disj rX_cover
theorem someX_glue {sp : Space} {e : EltTy} (b : Memref sig .tc sp S256x4096 e) :
    (bigSep Finset.univ fun k => some_ c (b.slice (rX k) (fun _ => rfl)) : sProp 𝕄) ⊢ some_ c b :=
  some_glue c b rX (fun _ _ => rfl) rX_disj rX_cover

/-- The result, cut into its pieces. -/
theorem out_cut : (some_ c aOut : sProp 𝕄)
    ⊢ iprop((bigSep Finset.univ fun k => some_ c (mO c k)) ∗ bigSep Finset.univ fun k => some_ c (mT c k)) :=
  (some_cut c aOut (rOut c) (rOut_stride c) (rOut_disj c) (rOut_cover c)).trans
    (Entails.of_eq (bigSep_univ_sum fun t => some_ c (aOut.slice (rOut c t) (rOut_stride c t))))

/-- What the result holds in the end: in its own rows the device's sums, in the others its row neighbour's. -/
def IsOut (X : S512x4096.Idx → Elt F .bf16) : Prop :=
  (∀ k, (fun j => X ((rOut c (.inl k)).emb j)) = YS m c k) ∧ ∀ k, (fun j => X ((rOut c (.inr k)).emb j)) = YS m (yp c) k

/-- What is wanted of a piece. -/
abbrev wantOut : (t : Fin 8 ⊕ Fin 8) → ((rOut c t).shape.Idx → Elt F .bf16) → Prop
  | .inl k => fun X => X = YS m c k
  | .inr k => fun X => X = YS m (yp c) k

/-- The pieces written are the result whole, as it should be. -/
theorem out_glue :
    iprop((bigSep Finset.univ fun k => own c (mO c k) (YS m c k)) ∗ bigSep Finset.univ fun k => own c (mT c k) (YS m (yp c) k))
      ⊢ iprop(∃ X, ⌜IsOut m c X⌝ ∗ own c aOut X) := by
  refine BIBase.Entails.trans (Q := bigSep Finset.univ fun t =>
    ownsSat (Val := Elt F) (c : Thread nD τ) (aOut.slice (rOut c t) (rOut_stride c t)) fullShare (wantOut m c t)) ?_ ?_
  · rw [bigSep_univ_sum]
    refine BIClass.sep_mono (bigSep_mono fun k _ => ?_) (bigSep_mono fun k _ => ?_)
    · exact ownsSat_intro (Val := Elt F) (Φ := wantOut m c (.inl k)) (c : Thread nD τ) (mO c k) fullShare rfl
    · exact ownsSat_intro (Val := Elt F) (Φ := wantOut m c (.inr k)) (c : Thread nD τ) (mT c k) fullShare rfl
  · refine BIBase.Entails.trans (ownsSat_of_rects (Val := Elt F) (c : Thread nD τ) aOut fullShare (rOut c) (rOut_stride c) (rOut_disj c)
      (rOut_cover c) (wantOut m c)) ?_
    refine BIBase.Entails.trans (ownsSat_elim (c : Thread nD τ) aOut fullShare _) ?_
    iintro ⟨%X, %hX, H⟩
    iexists X
    isplitr
    · ipureintro; exact ⟨fun k => hX (.inl k), fun k => hX (.inr k)⟩
    iexact H
end Chunks

end Cert.KernelIdeal.Chunked

end
-- ==== Proof.Body.lean ====
/- The body on one device, from what it starts with to what it leaves: its phases one after the other, each a rule of
   `Rules` run over the chunks. -/
module

public import proofs.«01_k».proof.Proof.Pieces

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the chunks -/

/-- A resource for each chunk. -/
abbrev all (Φ : Fin 8 → sProp 𝕄) : sProp 𝕄 := bigSep Finset.univ Φ

theorem over_sep : ∀ (l : List (Fin 8)) (Φ Ψ : Fin 8 → sProp 𝕄), over l (fun k => iprop(Φ k ∗ Ψ k)) ⊢ iprop(over l Φ ∗ over l Ψ)
  | [], Φ, Ψ => by
    rw [over_nil, over_nil]
    iintro -
    isplitr <;> iempintro
  | k :: l, Φ, Ψ => by
    rw [over_cons, over_cons, over_cons]
    have ih := over_sep l Φ Ψ
    iintro ⟨⟨H1, H2⟩, H⟩
    ihave H := ih $$ H
    icases H with ⟨H3, H4⟩
    isplitl [H1 H3]
    · isplitl [H1]; · iexact H1
      iexact H3
    isplitl [H2]; · iexact H2
    iexact H4
theorem sep_over : ∀ (l : List (Fin 8)) (Φ Ψ : Fin 8 → sProp 𝕄), iprop(over l Φ ∗ over l Ψ) ⊢ over l (fun k => iprop(Φ k ∗ Ψ k))
  | [], Φ, Ψ => by
    rw [over_nil, over_nil, over_nil]
    iintro -
    iempintro
  | k :: l, Φ, Ψ => by
    rw [over_cons, over_cons, over_cons]
    have ih := sep_over l Φ Ψ
    iintro ⟨⟨H1, H3⟩, ⟨H2, H4⟩⟩
    isplitl [H1 H2]
    · isplitl [H1]; · iexact H1
      iexact H2
    iapply ih
    isplitl [H3]; · iexact H3
    iexact H4

/-- A resource for each transfer, family by family. -/
abbrev sevens (Φ : Fin 7 → Fin 8 → sProp 𝕄) : sProp 𝕄 :=
  iprop(all (Φ 0) ∗ all (Φ 1) ∗ all (Φ 2) ∗ all (Φ 3) ∗ all (Φ 4) ∗ all (Φ 5) ∗ all (Φ 6))

/-! ## What the body starts with and what it leaves -/

/-- The device that performs the transfers of family `f` that end on device `c`, which is also the device the transfers
    of family `f` that `c` performs end on: the other half's for a partial product received, the other rows' for a sum
    received, itself for the rest. -/
def peer (f : Fin 7) (c : Dev nD) : Dev nD := if f = 2 then xp c else if f = 4 then yp c else c

/-- The rights a device starts with: to wait once for its barrier and for what arrives from its neighbours, to signal
    each neighbour's barrier once, its places in its own cells' rounds, and to perform every transfer once. -/
def rights (c : Dev nD) : sProp 𝕄 :=
  iprop(atPos ER (kcell (c, none)) 0 ∅ 0 ∗ cred (tallyAt (kcell (c, none)) () 2)
    ∗ dutyTok ER (kcell (xp c, none)) 0 true ∗ dutyTok ER (kcell (yp c, none)) 0 false
    ∗ sevens (fun f k => pos c f k) ∗ sevens (fun f k => tok (peer f c) f k) ∗ all (fun k => credit c 2 k) ∗ all (fun k => credit c 4 k))

/-- The six scratch arrays, at some contents. -/
def scratches (c : Dev nD) : sProp 𝕄 :=
  iprop(some_ c aDyf ∗ some_ c aDyh ∗ some_ c aXs ∗ some_ c aXr ∗ some_ c aYs ∗ some_ c aYr)

/-- The staged block of `x`. -/
abbrev aX : Memref sig .tc .vmem S1024x1024 .f32 := Memref.whole cc0_stg0_0

def bodyStart (c : Dev nD) : sProp 𝕄 :=
  iprop(own c aX (xstg m c) ∗ owesX c (debts c) ∗ rights c ∗ own c aDy (dyv m c) ∗ some_ c aOut ∗ scratches c)

def bodyEnd (c : Dev nD) : sProp 𝕄 :=
  iprop(own c aX (xstg m c) ∗ owesX c [] ∗ semVal (kcell (c, none)) 0 ∗ sevens (fun f k => zero c f k)
    ∗ own c aDy (dyv m c) ∗ (∃ X, ⌜IsOut m c X⌝ ∗ own c aOut X) ∗ scratches c)

variable {m} {K : Dev nD × CI → ℕ} {Q : PUnit.{1} → sProp (MT nD τ sig Unit (Elt F) ℕ UU ℕ)} (c : Dev nD)

/-! ## Levels -/

theorem lvX (k : Fin 8) : clv (dX c k).2 = 2 := rfl
theorem lvY (k : Fin 8) : clv (dY c k).2 = 3 := rfl
/-- What is owed after the barrier's signals is above the barrier. -/
theorem lv_chunks (l l' : List (Fin 8)) : ∀ x ∈ l.map (dX c) ++ l'.map (dY c), 1 < clv x.2 := fun x hx => by
  rcases List.mem_append.mp hx with h | h
  · obtain ⟨k, -, rfl⟩ := List.mem_map.mp h
    rw [lvX]; decide
  · obtain ⟨k, -, rfl⟩ := List.mem_map.mp h
    rw [lvY]; decide
/-- What is owed after the partial products are sent is above their arrival. -/
theorem lv_sums (l : List (Fin 8)) : ∀ x ∈ l.map (dY c), 2 < clv x.2 := fun x hx => by
  obtain ⟨k, -, rfl⟩ := List.mem_map.mp hx
  rw [lvY]; decide
/-- Every debt is above the bottom level. -/
theorem lv_debts : ∀ x ∈ debts c, 0 < clv x.2 := fun x hx => by
  rcases List.mem_cons.mp hx with rfl | hx
  · exact Nat.one_pos
  rcases List.mem_cons.mp hx with rfl | hx
  · exact Nat.one_pos
  exact Nat.lt_of_succ_lt (lv_chunks c _ _ x hx)

/-! ## The phases -/

/-- A signal to a neighbour's barrier hands over the places it makes ready. -/
theorem wp_meet (d : Dev nD) (b : Bool) (l : List (Dev nD × CI)) (K' : PR F) :
    iprop(ctx m K ∗ owesX c ((d, none) :: l) ∗ dutyTok ER (kcell (d, none)) 0 b ∗ barPay d b)
      ⊢ iprop((owesX c l -∗ WP c K' Q) -∗ WP c (.op (.semSignal (Dev.tc d) bar 1) fun _ => K') Q) := by
  unfold owesX
  iintro ⟨#Hc, ⟨%W, HO⟩, Ht, Hp⟩ Hk
  ihave #HI := (inv_at m K (d, none)) $$ Hc
  ihave #HR := (reached_at m K (d, none)) $$ Hc
  iapply (Rounds.wp_signal 𝒱₀ ER (Rd m) (c : Thread nD τ) none (dst := (d : Thread nD τ)) (κ := K (d, none)) (d := b)
      (show b ∈ (Rd m).duties (kcell (d, none)) 0 by rw [Rd_duties]; exact Finset.mem_univ _)
      (Rd_amount m (d, none) 0 b) () (owed l) rfl) $$ [HO Ht Hp]
  · isplitr; · iexact HI
    isplitl [HO]; · iexact HO
    isplitl [Ht]; · iexact Ht
    isplitl [Hp]
    · iapply (show barPay d b ⊢ (Rd m).payload (kcell (d, none)) 0 b from Entails.of_eq (Rd_payload m (d, none) 0 b).symm)
      iexact Hp
    iexact HR
  iintro HO
  iapply Hk
  iexists W
  iexact HO

/-- The wait at the device's barrier: both neighbours' places, and the barrier back at zero. -/
theorem wp_met (l : List (Dev nD × CI)) (hl : ∀ x ∈ l, 1 < clv x.2) (K' : PR F) :
    iprop(ctx m K ∗ owesX c l ∗ cred (tallyAt (kcell (c, none)) () 2) ∗ atPos ER (kcell (c, none)) 0 ∅ 0)
      ⊢ iprop(((owesX c l ∗ all (fun k => some_ (yp c) (mYr k)) ∗ all (fun k => some_ (xp c) (mXr k)) ∗ semVal (kcell (c, none)) 0) -∗ WP c K' Q)
        -∗ WP c (.op (.semWait bar 2) fun _ => K') Q) := by
  unfold owesX
  iintro ⟨#Hc, ⟨%W, HO⟩, Hcr, Hat⟩ Hk
  ihave #HI := (inv_at m K (c, none)) $$ Hc
  iapply (Rounds.wp_wait_rest_token 𝒱₀ ER (Rd m) (c : Thread nD τ) none (κ := K (c, none))
      (wpE_semWait_eq 𝒱₀ (c : Thread nD τ) none Set.univ) (Set.mem_univ _) () (O := owed l) (W := W) (R := 0) (m := 0) (T := ∅)
      (by rw [Nat.zero_add]; exact (Rd_expect m (c, none)).symm)) $$ [Hcr HO Hat]
  · isplitr; · iexact HI
    isplitl [Hcr]; · iexact Hcr
    isplitl [HO]; · iexact HO
    isplitr
    · iapply (mayWait c (.reg bar) l hl)
      iapply (lev_at m K); iexact Hc
    iexact Hat
  iintro ⟨HO, Hat, -, Hpay⟩
  ihave Hp := (Entails.of_eq (rest_bar m c)) $$ Hpay
  icases Hp with ⟨Hy, Hx⟩
  imod (Rounds.cell_close ER (Rd m) (Set.mem_univ (K (c, none))) (fun h => h) (R := 0 + 1) (Rd_later m (kcell (c, none)))) $$ [Hat] with Hz
  · isplitr; · iexact HI
    iexact Hat
  iapply Hk
  isplitl [HO]; · iexists _; iexact HO
  isplitl [Hy]; · iexact Hy
  isplitl [Hx]; · iexact Hx
  iexact Hz

/-- A load of part of an array held whole reads that part. -/
theorem wp_load_part {s : Shape} {e : EltTy} (b : Memref sig .tc .vmem s e) (r : Rect s) {hl : b.view.LoadsAt r.toLoadRect}
    {k : (r.shape.Idx → Elt F e) → PR F} (X : s.Idx → Elt F e) :
    own c b X ⊢ iprop((own c b X -∗ WP c (k fun j => X (r.emb j)) Q) -∗ WP c (.op (.load b r.toLoadRect hl) k) Q) := by
  unfold own owns
  iintro ⟨%f, %hf, H⟩ Hk
  iapply (wp_load_rect 𝒱₀ (c : Thread nD τ) none Set.univ (m := b) (r := r) (hl := hl) (k := k) (S := b.view.set)
    (View.set_slice_subset (v := b.view) r)) $$ H
  iintro H
  rw [show (b.access r).read (Elt F) f = fun j => X (r.emb j) from by rw [← hf]; rfl]
  iapply Hk
  iexists f
  isplitr; · ipureintro; exact hf
  iexact H

/-- The load of the narrowed `dy` whole reads it. -/
theorem wp_load_dyh {hl : aDyh.view.LoadsAt (Rect.unit (s := S1024x4096) ![0, 0] S1024x4096.size inb_S1024x4096_S1024x4096_0_0).toLoadRect}
    {k : (S1024x4096.Idx → Elt F .bf16) → PR F} (X : S1024x4096.Idx → Elt F .bf16) :
    own c aDyh X ⊢ iprop((own c aDyh X -∗ WP c (k X) Q)
      -∗ WP c (.op (.load aDyh (Rect.unit (s := S1024x4096) ![0, 0] S1024x4096.size inb_S1024x4096_S1024x4096_0_0).toLoadRect hl) k) Q) := by
  have h : (fun j => X ((Rect.unit (s := S1024x4096) ![0, 0] S1024x4096.size inb_S1024x4096_S1024x4096_0_0).emb j)) = X :=
    funext fun j => congrArg X (funext fun a => Fin.ext (by
      rw [Rect.emb_apply]
      fin_cases a <;> exact (Nat.zero_add _).trans (Nat.one_mul _)))
  have h' := wp_load_part (Q := Q) c aDyh (Rect.unit (s := S1024x4096) ![0, 0] S1024x4096.size inb_S1024x4096_S1024x4096_0_0) (hl := hl) (k := k) X
  rw [h] at h'
  exact h'

/-- Every chunk of `dy` is on its way. -/
theorem wp_copies (K' : PR F) :
    iprop(ctx m K ∗ own c aDy (dyv m c) ∗ some_ c aDyf ∗ all (fun k => tok c 0 k))
      ⊢ iprop((all (fun k => credit c 0 k) -∗ WP c K' Q) -∗ WP c (each chunks copyIn K') Q) := by
  iintro ⟨#Hc, Hd, Hf, Ht⟩ Hk
  ihave Hd := (dy_cut m c) $$ Hd
  ihave Hf := (someD_cut c aDyf) $$ Hf
  iapply (wp_each (Q := Q) c copyIn (ctx m K) (fun _ => iprop(emp)) (copyPre m c) (fun k => credit c 0 k) chunks
    (fun k l' K' _ _ => by
      iintro ⟨#Hc, -, Hp⟩ Hk
      iapply (wp_copyIn (m := m) (K := K) c k K') $$ [Hp]
      · isplitr; · iexact Hc
        iexact Hp
      iintro H
      iapply Hk
      isplitr; · iempintro
      iexact H) K') $$ [Hd Hf Ht]
  · isplitr; · iexact Hc
    isplitr; · iempintro
    rw [over_chunks]
    unfold copyPre
    rw [bigSep_sep', bigSep_sep']
    isplitl [Hd]; · iexact Hd
    isplitl [Hf]; · iexact Hf
    iexact Ht
  rw [over_chunks]
  iintro ⟨-, H⟩
  iapply Hk
  iexact H

/-- Every partial product sent, the first two around the barrier: what the waits for `dy` give for good, and the rights to
    wait for the sends. -/
theorem wp_products (K' : PR F) :
    iprop(ctx m K ∗ owesX c (chunks.map (dX c) ++ chunks.map (dY c)) ∗ over chunks (headPre c)
        ∗ cred (tallyAt (kcell (c, none)) () 2) ∗ atPos ER (kcell (c, none)) 0 ∅ 0
        ∗ all (fun k => tok c 1 k) ∗ all (fun k => tok (xp c) 2 k))
      ⊢ iprop(((owesX c (chunks.map (dY c)) ∗ all (headKeep m c) ∗ all (fun k => credit c 1 k)
            ∗ all (fun k => some_ (yp c) (mYr k)) ∗ semVal (kcell (c, none)) 0) -∗ WP c K' Q)
        -∗ WP c (each [0, 1] (fun k => head k (xb m c)) <| .op (.semWait bar 2) fun _ =>
            each [0, 1] (fun k => sendX k (devX c k)) <|
            each [2, 3, 4, 5, 6, 7] (fun k K => head k (xb m c) (sendX k (devX c k) K)) K') Q) := by
  rw [over_split]
  iintro ⟨#Hc, HO, ⟨Hh, Hh'⟩, Hcr, Hat, Ht1, Ht2⟩ Hk
  -- the first two products are formed
  iapply (wp_each (Q := Q) c (fun k => head k (xb m c)) (ctx m K) (fun _ => owesX c (chunks.map (dX c) ++ chunks.map (dY c)))
    (headPre c) (fun k => iprop(headKeep m c k ∗ own c (mXs k) (XS m c k))) [0, 1]
    (fun k l' K' _ _ => wp_head (m := m) (K := K) c k _ (fun x hx => Nat.lt_of_succ_lt (lv_chunks c _ _ x hx)) K') _) $$ [HO Hh]
  · isplitr; · iexact Hc
    isplitl [HO]; · iexact HO
    iexact Hh
  iintro ⟨HO, H⟩
  ihave H := (over_sep [0, 1] (headKeep m c) (fun k => own c (mXs k) (XS m c k))) $$ H
  icases H with ⟨Hkeep, Hxs⟩
  -- the barrier
  iapply (wp_met (m := m) (K := K) c (chunks.map (dX c) ++ chunks.map (dY c)) (lv_chunks c _ _) _) $$ [HO Hcr Hat]
  · isplitr; · iexact Hc
    isplitl [HO]; · iexact HO
    isplitl [Hcr]; · iexact Hcr
    iexact Hat
  iintro ⟨HO, Hyr, Hxr, Hz⟩
  ihave Hgo := (show iprop(all (fun k => some_ (xp c) (mXr k)) ∗ all (fun k => tok c 1 k) ∗ all (fun k => tok (xp c) 2 k))
      ⊢ iprop(over [0, 1] (sendGo (F := F) c) ∗ over [2, 3, 4, 5, 6, 7] (sendGo (F := F) c)) from by
        rw [← over_split, over_chunks]
        unfold sendGo
        rw [bigSep_sep', bigSep_sep']) $$ [Hxr Ht1 Ht2]
  · isplitl [Hxr]; · iexact Hxr
    isplitl [Ht1]; · iexact Ht1
    iexact Ht2
  icases Hgo with ⟨Hgo, Hgo'⟩
  -- the first two are sent
  ihave Hs := (sep_over [0, 1] (fun k => own c (mXs k) (XS m c k)) (sendGo (F := F) c)) $$ [Hxs Hgo]
  · isplitl [Hxs]; · iexact Hxs
    iexact Hgo
  iapply (wp_each (Q := Q) c (fun k => sendX k (devX c k)) (ctx m K)
    (fun l => owesX c (l.map (dX c) ++ (([2, 3, 4, 5, 6, 7] : List (Fin 8)).map (dX c) ++ chunks.map (dY c))))
    (fun k => iprop(own c (mXs k) (XS m c k) ∗ sendGo c k)) (fun k => credit c 1 k) [0, 1]
    (fun k l' K' _ _ => wp_sendX (m := m) (K := K) c k _ (devX c k) (devX_eq c k) K') _) $$ [HO Hs]
  · isplitr; · iexact Hc
    isplitl [HO]; · iexact HO
    iexact Hs
  iintro ⟨HO, Hc1⟩
  -- the others are formed and sent one by one
  ihave Hs := (sep_over [2, 3, 4, 5, 6, 7] (headPre c) (sendGo (F := F) c)) $$ [Hh' Hgo']
  · isplitl [Hh']; · iexact Hh'
    iexact Hgo'
  iapply (wp_each (Q := Q) c (fun k K => head k (xb m c) (sendX k (devX c k) K)) (ctx m K)
    (fun l => owesX c (l.map (dX c) ++ chunks.map (dY c)))
    (fun k => iprop(headPre c k ∗ sendGo c k)) (fun k => iprop(headKeep m c k ∗ credit c 1 k)) [2, 3, 4, 5, 6, 7]
    (fun k l' K' _ _ => wp_head_send (m := m) (K := K) c k (l'.map (dX c) ++ chunks.map (dY c))
      (fun x hx => Nat.lt_of_succ_lt (lv_chunks c (k :: l') chunks x hx)) (devX c k) (devX_eq c k) K') _) $$ [HO Hs]
  · isplitr; · iexact Hc
    isplitl [HO]; · iexact HO
    iexact Hs
  iintro ⟨HO, H⟩
  ihave H := (over_sep [2, 3, 4, 5, 6, 7] (headKeep m c) (fun k => credit c 1 k)) $$ H
  icases H with ⟨Hkeep', Hc1'⟩
  iapply Hk
  isplitl [HO]; · iexact HO
  isplitl [Hkeep Hkeep']
  · iapply (Entails.of_eq ((over_split (headKeep m c)).symm.trans (over_chunks (headKeep m c))))
    isplitl [Hkeep]; · iexact Hkeep
    iexact Hkeep'
  isplitl [Hc1 Hc1']
  · iapply (Entails.of_eq ((over_split (fun k => (credit c 1 k : sProp 𝕄))).symm.trans (over_chunks _)))
    isplitl [Hc1]; · iexact Hc1
    iexact Hc1'
  isplitl [Hyr]; · iexact Hyr
  iexact Hz

/-- The sums formed, passed on and written out, and every transfer waited for. -/
theorem wp_finish :
    iprop(ctx m K ∗ owesX c (chunks.map (dY c)) ∗ over chunks (combinePre c)
        ∗ (all (fun k => credit c 4 k) ∗ all (fun k => pos c 4 k)) ∗ all (fun k => some_ c (mT c k)) ∗ all (fun k => tok c 6 k)
        ∗ all (fun k => pos c 5 k) ∗ all (fun k => pos c 6 k)
        ∗ (all (fun k => credit c 1 k) ∗ all (fun k => pos c 1 k)) ∗ all (fun k => pos c 3 k))
      ⊢ iprop(((owesX c [] ∗ (all (fun k => dmaPay m c k 2) ∗ all (fun k => zero c 2 k)) ∗ all (fun k => zero c 4 k) ∗ all (drainPost m c)) -∗ Q ⟨⟩)
        -∗ WP c (finish c (AA m c)) Q) := by
  unfold finish
  iintro ⟨#Hc, HO, Hcomb, H4, HmT, Ht6, Hp5, Hp6, H1, Hp3⟩ Hk
  iapply (wp_each (Q := Q) c (fun k => combine k (AA m c) (devY c k) (offO c k) (offO_inb c k) (offO_words c k)) (ctx m K)
    (fun l => owesX c (l.map (dY c))) (combinePre c) (combinePost m c) chunks
    (fun k l' K' _ _ => wp_combine (m := m) (K := K) c k (l'.map (dY c)) (lv_sums c (k :: l')) (devY c k) (devY_eq c k) K') _) $$ [HO Hcomb]
  · isplitr; · iexact Hc
    isplitl [HO]; · iexact HO
    iexact Hcomb
  rw [over_chunks]
  unfold combinePost
  rw [bigSep_sep', bigSep_sep', bigSep_sep']
  iintro ⟨HO, Hd2, Hz2, Hc3, Hc5⟩
  iapply (wp_each (Q := Q) c (fun k => forward k (offT c k) (offT_inb c k) (offT_words c k)) (ctx m K)
    (fun _ => owesX c []) (forwardPre c) (forwardPost c) chunks
    (fun k l' K' _ _ => wp_forward (m := m) (K := K) c k K') _) $$ [HO H4 HmT Ht6]
  · isplitr; · iexact Hc
    isplitl [HO]; · iexact HO
    rw [over_chunks]
    unfold forwardPre
    rw [bigSep_sep', bigSep_sep', bigSep_sep']
    icases H4 with ⟨Hc4, Hp4⟩
    isplitl [Hc4]; · iexact Hc4
    isplitl [Hp4]; · iexact Hp4
    isplitl [HmT]; · iexact HmT
    iexact Ht6
  rw [over_chunks]
  unfold forwardPost
  rw [bigSep_sep']
  iintro ⟨HO, Hz4, Hc6⟩
  iapply (wp_each (Q := Q) c (fun k => drain k (offO c k) (offO_inb c k) (offO_words c k) (offT c k) (offT_inb c k) (offT_words c k)) (ctx m K)
    (fun _ => owesX c []) (drainPre c) (drainPost m c) chunks
    (fun k l' K' _ _ => wp_drain (m := m) (K := K) c k K') _) $$ [HO Hc5 Hp5 Hc6 Hp6 H1 Hc3 Hp3]
  · isplitr; · iexact Hc
    isplitl [HO]; · iexact HO
    rw [over_chunks]
    unfold drainPre
    simp only [bigSep_sep']
    isplitl [Hc5 Hp5]
    · isplitl [Hc5]; · iexact Hc5
      iexact Hp5
    isplitl [Hc6 Hp6]
    · isplitl [Hc6]; · iexact Hc6
      iexact Hp6
    isplitl [H1]; · iexact H1
    isplitl [Hc3]; · iexact Hc3
    iexact Hp3
  rw [over_chunks]
  iintro ⟨HO, Hd⟩
  iapply (show (iprop(|={Set.univ}=> Q ⟨⟩) : sProp 𝕄) ⊢ WP c (.ret ⟨⟩) Q from Entails.of_eq (wp_ret ..).symm)
  imodintro
  iapply Hk
  isplitl [HO]; · iexact HO
  isplitl [Hd2 Hz2]
  · isplitl [Hd2]; · iexact Hd2
    iexact Hz2
  isplitl [Hz4]; · iexact Hz4
  iexact Hd

/-! ## The whole body -/

/-- What the waits gave back, put together: `dy` whole, the scratch arrays whole, the result whole and as it should be, and
    every semaphore at zero. -/
theorem put_back :
    iprop((all (fun k => dmaPay m c k 0) ∗ all (fun k => zero c 0 k)) ∗ own c aDyh (DYh m c)
        ∗ (all (fun k => dmaPay m c k 2) ∗ all (fun k => zero c 2 k)) ∗ all (fun k => zero c 4 k) ∗ all (drainPost m c))
      ⊢ iprop(sevens (fun f k => zero c f k) ∗ own c aDy (dyv m c) ∗ (∃ X, ⌜IsOut m c X⌝ ∗ own c aOut X) ∗ scratches c) := by
  unfold drainPost
  simp only [bigSep_sep']
  iintro ⟨⟨H0, Hz0⟩, Hdyh, ⟨H2, Hz2⟩, Hz4, ⟨H5, Hz5⟩, ⟨H6, Hz6⟩, ⟨H1, Hz1⟩, ⟨H3, Hz3⟩⟩
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  ihave H0 := (show all (fun k => dmaPay m c k 0) ⊢ iprop(all (fun k => own c (mDyf k) (DYc m c k)) ∗ all (fun k => own c (mDy k) (DYc m c k)))
    from Entails.of_eq (bigSep_sep' _ (fun k => own c (mDyf k) (DYc m c k)) (fun k => own c (mDy k) (DYc m c k)))) $$ H0
  icases H0 with ⟨Hdyf, Hdy⟩
  ihave H5 := (show all (fun k => dmaPay m c k 5) ⊢ iprop(all (fun k => own c (mO c k) (YS m c k)) ∗ all (fun k => ownR c (mYs k) (YS m c k)))
    from Entails.of_eq (bigSep_sep' _ (fun k => own c (mO c k) (YS m c k)) (fun k => ownR c (mYs k) (YS m c k)))) $$ H5
  icases H5 with ⟨HO, HsR⟩
  ihave H6 := (show all (fun k => dmaPay m c k 6) ⊢ iprop(all (fun k => own c (mT c k) (YS m (yp c) k)) ∗ all (fun k => own c (mYr k) (YS m (yp c) k)))
    from Entails.of_eq (bigSep_sep' _ (fun k => own c (mT c k) (YS m (yp c) k)) (fun k => own c (mYr k) (YS m (yp c) k)))) $$ H6
  icases H6 with ⟨HT, Hyr⟩
  isplitl [Hdy]; · iapply (dy_glue m c); iexact Hdy
  isplitl [HO HT]
  · iapply (out_glue m c)
    isplitl [HO]; · iexact HO
    iexact HT
  unfold scratches
  isplitl [Hdyf]
  · iapply (someD_glue c aDyf)
    iapply (show all (fun k => own c (mDyf k) (DYc m c k)) ⊢ all (fun k => some_ c (mDyf k)) from bigSep_mono fun k _ => some_intro c (mDyf k) _)
    iexact Hdyf
  isplitl [Hdyh]; · iexists _; iexact Hdyh
  isplitl [H1]
  · iapply (someX_glue c aXs)
    iapply (show all (fun k => dmaPay m c k 1) ⊢ all (fun k => some_ c (mXs k)) from bigSep_mono fun k _ => some_intro c (mXs k) (XS m c k))
    iexact H1
  isplitl [H2]
  · iapply (someX_glue c aXr)
    iapply (show all (fun k => dmaPay m c k 2) ⊢ all (fun k => some_ c (mXr k)) from bigSep_mono fun k _ => some_intro c (mXr k) (XS m (xp c) k))
    iexact H2
  isplitl [H3 HsR]
  · iapply (someX_glue c aYs)
    iapply (show iprop(all (fun k => dmaPay m c k 3) ∗ all (fun k => ownR c (mYs k) (YS m c k))) ⊢ all (fun k => some_ c (mYs k)) from by
      rw [← bigSep_sep']
      exact bigSep_mono fun k _ => ((owns_halves (Val := Elt F) (c : Thread nD τ) (mYs k) fullShare (YS m c k)).2.trans (some_intro c (mYs k) (YS m c k))))
    isplitl [H3]; · iexact H3
    iexact HsR
  iapply (someX_glue c aYr)
  iapply (show all (fun k => own c (mYr k) (YS m (yp c) k)) ⊢ all (fun k => some_ c (mYr k)) from bigSep_mono fun k _ => some_intro c (mYr k) _)
  iexact Hyr

/-- The body runs on device `c` from what it starts with to what it should leave. -/
theorem wp_device (Kt : PUnit.{1} → sProp 𝕄) :
    iprop(ctx m K ∗ bodyStart m c) ⊢ iprop((bodyEnd m c -∗ Kt ⟨⟩) -∗ WP c (device aX c) Kt) := by
  unfold bodyStart rights scratches device
  simp only [dev1_eq c, dev2_eq c]
  iintro ⟨#Hc, HX, HO, ⟨Hat, Hcr, Htx, Hty, ⟨Hp0, Hp1, Hp2, Hp3, Hp4, Hp5, Hp6⟩, ⟨Ht0, Ht1, Ht2, Ht3, Ht4, Ht5, Ht6⟩, Hc2, Hc4⟩,
    Hdy, Hout, Hdyf, Hdyh, Hxs, Hxr, Hys, Hyr⟩ Hk
  ihave Hdyh := (someD_cut c aDyh) $$ Hdyh
  ihave Hxs := (someX_cut c aXs) $$ Hxs
  ihave Hxr := (someX_cut c aXr) $$ Hxr
  ihave Hys := (someX_cut c aYs) $$ Hys
  ihave Hyr := (someX_cut c aYr) $$ Hyr
  ihave Hout := (out_cut c) $$ Hout
  icases Hout with ⟨HmO, HmT⟩
  iapply (wp_copies (m := m) (K := K) c _) $$ [Hdy Hdyf Ht0]
  · isplitr; · iexact Hc
    isplitl [Hdy]; · iexact Hdy
    isplitl [Hdyf]; · iexact Hdyf
    iexact Ht0
  iintro Hc0
  unfold debts
  iapply (wp_meet (m := m) (K := K) c (xp c) true _ _) $$ [HO Htx Hxr]
  · isplitr; · iexact Hc
    isplitl [HO]; · iexact HO
    isplitl [Htx]; · iexact Htx
    iapply (show all (fun k => some_ c (mXr k)) ⊢ barPay (F := F) (xp c) true from Entails.of_eq (by
      show _ = bigSep Finset.univ fun k => some_ (xp (xp c)) (mXr k)
      rw [xp_xp]))
    iexact Hxr
  iintro HO
  iapply (wp_meet (m := m) (K := K) c (yp c) false _ _) $$ [HO Hty Hyr]
  · isplitr; · iexact Hc
    isplitl [HO]; · iexact HO
    isplitl [Hty]; · iexact Hty
    iapply (show all (fun k => some_ c (mYr k)) ⊢ barPay (F := F) (yp c) false from Entails.of_eq (by
      show _ = bigSep Finset.univ fun k => some_ (yp (yp c)) (mYr k)
      rw [yp_yp]))
    iexact Hyr
  iintro HO
  iapply (wp_load_part c aX (Rect.unit (s := S1024x1024) (k0_off1 c) S1024x256.size (k0_off1_inb c)) (xstg m c)) $$ HX
  iintro HX
  iapply (wp_load_part c aX (Rect.unit (s := S1024x1024) (k0_off2 c) S1024x256.size (k0_off2_inb c)) (xstg m c)) $$ HX
  iintro HX
  iapply (wp_products (m := m) (K := K) c _) $$ [HO Hc0 Hp0 Hdyh Hxs Hcr Hat Ht1 Ht2]
  · isplitr; · iexact Hc
    isplitl [HO]; · iexact HO
    isplitl [Hc0 Hp0 Hdyh Hxs]
    · rw [over_chunks]
      unfold headPre
      simp only [bigSep_sep']
      isplitl [Hc0]; · iexact Hc0
      isplitl [Hp0]; · iexact Hp0
      isplitl [Hdyh]; · iexact Hdyh
      iexact Hxs
    isplitl [Hcr]; · iexact Hcr
    isplitl [Hat]; · iexact Hat
    isplitl [Ht1]; · iexact Ht1
    iexact Ht2
  unfold headKeep
  iintro ⟨HO, Hkeep, Hc1, HyrN, Hz⟩
  ihave Hkeep := (show all (fun k => iprop(dmaPay m c k 0 ∗ zero c 0 k ∗ own c (mDyh k) (DYhc m c k)))
      ⊢ iprop(all (fun k => dmaPay m c k 0) ∗ all (fun k => zero c 0 k) ∗ all (fun k => own c (mDyh k) (DYhc m c k))) from
        Entails.of_eq ((bigSep_sep' _ (fun k => dmaPay m c k 0) _).trans (congrArg _ (bigSep_sep' _ (fun k => zero c 0 k) _)))) $$ Hkeep
  icases Hkeep with ⟨Hk0, Hz0, Hdyh⟩
  ihave Hdyh := (dyh_glue m c) $$ Hdyh
  iapply (wp_load_dyh c (DYh m c)) $$ Hdyh
  iintro Hdyh
  iapply (wp_finish (m := m) (K := K) c) $$ [HO Hc2 Hp2 Hys HyrN Ht3 Ht4 HmO Ht5 Hc4 Hp4 HmT Ht6 Hp5 Hp6 Hc1 Hp1 Hp3]
  · isplitr; · iexact Hc
    isplitl [HO]; · iexact HO
    isplitl [Hc2 Hp2 Hys HyrN Ht3 Ht4 HmO Ht5]
    · rw [over_chunks]
      unfold combinePre
      simp only [bigSep_sep']
      isplitl [Hc2]; · iexact Hc2
      isplitl [Hp2]; · iexact Hp2
      isplitl [Hys]; · iexact Hys
      isplitl [HyrN]; · iexact HyrN
      isplitl [Ht3]; · iexact Ht3
      isplitl [Ht4]; · iexact Ht4
      isplitl [HmO]; · iexact HmO
      iexact Ht5
    isplitl [Hc4 Hp4]
    · isplitl [Hc4]; · iexact Hc4
      iexact Hp4
    isplitl [HmT]; · iexact HmT
    isplitl [Ht6]; · iexact Ht6
    isplitl [Hp5]; · iexact Hp5
    isplitl [Hp6]; · iexact Hp6
    isplitl [Hc1 Hp1]
    · isplitl [Hc1]; · iexact Hc1
      iexact Hp1
    iexact Hp3
  iintro ⟨HO, H2, H4, Hd⟩
  ihave H := (put_back (m := m) c) $$ [Hk0 Hz0 Hdyh H2 H4 Hd]
  · isplitl [Hk0 Hz0]
    · isplitl [Hk0]; · iexact Hk0
      iexact Hz0
    isplitl [Hdyh]; · iexact Hdyh
    isplitl [H2]; · iexact H2
    isplitl [H4]; · iexact H4
    iexact Hd
  icases H with ⟨Hzs, Hdy, Hout, Hscr⟩
  iapply Hk
  unfold bodyEnd
  isplitl [HX]; · iexact HX
  isplitl [HO]; · iexact HO
  isplitl [Hz]; · iexact Hz
  isplitl [Hzs]; · iexact Hzs
  isplitl [Hdy]; · iexact Hdy
  isplitl [Hout]; · iexact Hout
  iexact Hscr

end Cert.KernelIdeal.Chunked

end
-- ==== Proof.Launch.lean ====
/- The LAUNCH: what the machine starts with, dealt to the four devices as each one's body wants it. -/
module

public import proofs.«01_k».proof.Proof.Body
public import Idealize.ShloMosaic.Lib.Pipeline.CollectiveSegs

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells and over the duties -/

/-- The barrier's cell, then the transfers'. -/
theorem bigSep_cells (Φ : CI → sProp 𝕄) : bigSep Finset.univ Φ = iprop(Φ none ∗ bigSep Finset.univ fun p => Φ (some p)) := by
  rw [bigSep_univ_at Φ none, show (Finset.univ : Finset CI).erase none = Finset.univ.map Function.Embedding.some from by decide, bigSep_map]
  rfl

theorem bigSep_sevens (Φ : Fin 7 → Fin 8 → sProp 𝕄) : bigSep Finset.univ (fun p : Fin 7 × Fin 8 => Φ p.1 p.2) = sevens Φ := by
  rw [bigSep_univ_prod]
  exact bigSep_univ_eq_bigSepL [0, 1, 2, 3, 4, 5, 6] (by decide) (by decide) _

/-- A duty: a signal to a barrier from the other half or from the other rows, or a transfer. -/
abbrev TI : Type := Bool ⊕ (Fin 7 × Fin 8)

/-- The token of a duty of a device's cells. -/
abbrev tokOf (x : Dev nD × TI) : GSem nD τ sig × ℕ × Bool := match x.2 with
  | .inl b => (kcell (x.1, none), 0, b)
  | .inr p => (kcell (x.1, some p), 0, false)
theorem tokOf_injective : Function.Injective (tokOf : Dev nD × TI → GSem nD τ sig × ℕ × Bool) := by
  rintro ⟨c, t⟩ ⟨c', t'⟩ h
  rcases t with b | p <;> rcases t' with b' | p'
  · have h1 := kcell_injective (congrArg Prod.fst h)
    have h2 : b = b' := congrArg (fun y => y.2.2) h
    rw [show c = c' from congrArg Prod.fst h1, h2]
  · have h1 := kcell_injective (congrArg Prod.fst h)
    cases (congrArg Prod.snd h1 : (none : CI) = some p')
  · have h1 := kcell_injective (congrArg Prod.fst h)
    cases (congrArg Prod.snd h1 : (some p : CI) = none)
  · have h1 := kcell_injective (congrArg Prod.fst h)
    rw [show c = c' from congrArg Prod.fst h1, Option.some.inj (congrArg Prod.snd h1 : (some p : CI) = some p')]

/-- The device that performs a duty of a device's cells. -/
def who : TI → Dev nD → Dev nD
  | .inl b => fun c => if b then xp c else yp c
  | .inr p => peer p.1
theorem who_who : ∀ t c, who t (who t c) = c
  | .inl true, c => xp_xp c
  | .inl false, c => yp_yp c
  | .inr (f, k), c => by
    show peer f (peer f c) = c
    unfold peer
    split
    · exact xp_xp c
    split
    · exact yp_yp c
    rfl

/-! ## What the launch mints -/

def launchCells : Finset (GSem nD τ sig) := Finset.univ.map ⟨kcell, kcell_injective⟩
def launchToks : Finset (GSem nD τ sig × ℕ × Bool) := Finset.univ.map ⟨tokOf, tokOf_injective⟩
def u₀ : UU := (initOf (Pipeline.cells cfgs cellOf_inj) (Pipeline.launchToks cfgs cellOf_inj), initOf launchCells launchToks)

/-- A duty's token. -/
abbrev tokAt (x : Dev nD × TI) : sProp 𝕄 := dutyTok ER (tokOf x).1 (tokOf x).2.1 (tokOf x).2.2

/-- What the launch deals a device: its cells' rounds, its places in them, and the tokens of their duties. -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0))
    ∗ bigSep Finset.univ fun t => tokAt (c, t))

/-- What a device has of the protocol in the end: the records, its places, and the tokens of the duties IT performs. -/
def G' (c : Dev nD) : sProp 𝕄 :=
  iprop(∃ K, records m K ∗ (bigSep Finset.univ fun i : CI => atPos ER (kcell (c, i)) 0 ∅ 0) ∗ bigSep Finset.univ fun t => tokAt (who t c, t))

theorem G'_intro (K : Dev nD × CI → ℕ) (c : Dev nD) :
    iprop(records m K ∗ (bigSep Finset.univ fun i : CI => atPos ER (kcell (c, i)) 0 ∅ 0) ∗ bigSep Finset.univ fun t => tokAt (who t c, t)) ⊢ G' m c := by
  unfold G'
  iintro H
  iexists K
  iexact H

theorem fund_launch : BI.own (ER (initOf launchCells launchToks)) ⊢ (|==> bigSep Finset.univ (G m) : sProp 𝕄) := by
  have hX (Φ : GSem nD τ sig → sProp 𝕄) : bigSep launchCells Φ = bigSep Finset.univ fun c : Dev nD => bigSep Finset.univ fun i : CI => Φ (kcell (c, i)) := by
    unfold launchCells; rw [bigSep_map, bigSep_univ_prod]; rfl
  have hT : bigSep launchToks (fun x => (dutyTok ER x.1 x.2.1 x.2.2 : sProp 𝕄)) = bigSep Finset.univ fun c : Dev nD => bigSep Finset.univ fun t : TI => tokAt (c, t) := by
    unfold launchToks; rw [bigSep_map, bigSep_univ_prod]; rfl
  iintro HX
  imod (Rounds.fund ER (Rd m) launchCells launchToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: the transfers'. -/
abbrev osem (p : Fin 7 × Fin 8) : SemLoc sig := csem (some p)

set_option maxRecDepth 4000 in
theorem ownSemFacts : Pipeline.OwnSemFacts spec0 osem :=
  ⟨by decide, fun p q h => Option.some.inj (csem_injective h), by decide⟩

theorem unscopedSems0_eq (c : Dev nD) : (unscopedSems0 c : sProp 𝕄) = semVal (kcell (c, none)) 0 := by
  unfold unscopedSems0; rw [bigSep_eq_bigSepL_of_eq [SemLoc.reg bar] (by decide) (by decide)]; rfl
theorem ownSems0_eq (c : Dev nD) : (Pipeline.ownSems0 (Ix := Unit) (Name := ℕ) (U := UU) (Lvl := ℕ) (Val := Elt F) (τ := τ) osem c : sProp 𝕄)
    = sevens fun f k => zero c f k :=
  bigSep_sevens fun f k => (zero c f k : sProp 𝕄)

/-- A device's cells set up: an invariant for each. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0))
          ∗ bigSep Finset.univ fun t => tokAt (c, t)) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) from by
        rw [unscopedSems0_eq, bigSep_cells]
        unfold Pipeline.ownSems0
        iintro ⟨H1, H2⟩
        isplitl [H2]; · iexact H2
        iexact H1) $$ [Hos Hus]
  · isplitl [Hos] <;> iassumption
  imod (show iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that perform the duties. -/
theorem toks_around : (bigSep Finset.univ fun c : Dev nD => bigSep Finset.univ fun t : TI => (tokAt (c, t) : sProp 𝕄))
    = bigSep Finset.univ fun c : Dev nD => bigSep Finset.univ fun t : TI => tokAt (who t c, t) := by
  rw [BI.bigSep_univ_comm]
  refine (bigSep_congr fun t _ => bigSep_univ_equiv (⟨who t, who t, who_who t, who_who t⟩ : Dev nD ≃ Dev nD) fun c => (tokAt (c, t) : sProp 𝕄)).trans ?_
  exact BI.bigSep_univ_comm (fun (t : TI) (c : Dev nD) => (tokAt (who t c, t) : sProp 𝕄))

theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0))
          ∗ bigSep Finset.univ fun t => tokAt (c, t)) : sProp 𝕄)
      ⊢ bigSep Finset.univ (G' m) := by
  rw [bigSep_sep', bigSep_sep', toks_around, ← bigSep_univ_prod (fun x : Dev nD × CI => (iprop(∃ κ : ℕ, cellInv ER (Rd m) κ (kcell x)) : sProp 𝕄)),
    bigSep_congr (I := Dev nD) (s := Finset.univ) (fun c _ => bigSep_sep' Finset.univ (fun i : CI => (atPos ER (kcell (c, i)) 0 ∅ 0 : sProp 𝕄)) (fun i : CI => reached ER (kcell (c, i)) 0)),
    bigSep_sep', ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  iapply (show iprop(records m K ∗ ((bigSep Finset.univ fun c : Dev nD => bigSep Finset.univ fun i : CI => atPos ER (kcell (c, i)) 0 ∅ 0)
      ∗ bigSep Finset.univ fun c : Dev nD => bigSep Finset.univ fun t : TI => tokAt (who t c, t))) ⊢ bigSep Finset.univ (G' m) from by
    rw [← bigSep_sep']
    refine (BIClass.sep_mono (BI.bigSep_of_persistent (Finset.univ : Finset (Dev nD)) (records m K)) .rfl).trans ?_
    exact BIBase.Entails.trans (Entails.of_eq (bigSep_sep' Finset.univ (fun _ : Dev nD => records m K) _).symm) (bigSep_mono fun c _ => G'_intro m K c))
  isplitr
  · unfold records; isplitl; · iexact HI
    iexact HR
  isplitl [Hat]; · iexact Hat
  iexact Htok

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- What is owed a cell is its amount for each debt listed. -/
theorem owed_count (x : Dev nD × CI) : ∀ l : List (Dev nD × CI), owed l (kcell x) () = l.count x * amt x.2
  | [] => (Nat.zero_mul _).symm
  | y :: l => by
    show (owed l + tallyAt (kcell y) () (amt y.2)) (kcell x) () = _
    rw [Pi.add_apply, Finsupp.add_apply, owed_count x l, tallyAt_apply, List.count_cons]
    by_cases h : x = y
    · subst h
      rw [if_pos ⟨rfl, rfl⟩, if_pos (beq_self_eq_true x), Nat.add_mul, Nat.one_mul]
    · rw [if_neg fun h' => h (kcell_injective h'.1), if_neg fun h' => h (eq_of_beq h').symm, Nat.add_zero, Nat.add_zero]

/-- How many debts the devices have to a cell. -/
def due (x : Dev nD × CI) : ℕ := ∑ d : Dev nD, (debts d).count x

set_option maxRecDepth 8000 in
theorem due_bar : ∀ c : Dev nD, due (c, none) = 2 := by decide
set_option maxRecDepth 8000 in
theorem due_X : ∀ (c : Dev nD) (k : Fin 8), due (c, some (2, k)) = 1 := by decide
set_option maxRecDepth 8000 in
theorem due_Y : ∀ (c : Dev nD) (k : Fin 8), due (c, some (4, k)) = 1 := by decide

theorem launch_at (x : Dev nD × CI) :
    tallyOn (kcell x) (launchCredit (Pipeline.owing fun d => owed (debts d)) 0 (kcell x))
      = (tallyAt (kcell x) () (due x * amt x.2) : CellTallies nD τ sig Unit) := by
  unfold tallyAt; refine congrArg _ (Finsupp.ext fun u => ?_); cases u
  rw [Pipeline.launchCredit_owing, Finsupp.single_eq_same, Finset.sum_congr rfl fun d _ => owed_count x (debts d), ← Finset.sum_mul]
  rfl

theorem creds (c : Dev nD) :
    (Pipeline.launchCred (fun d => owed (debts d)) c : sProp 𝕄)
      ⊢ iprop(cred (tallyAt (kcell (c, none)) () 2) ∗ all (fun k => credit c 2 k) ∗ all (fun k => credit c 4 k)) := by
  unfold Pipeline.launchCred
  refine (bigSep_subset (Finset.subset_univ (Finset.univ.map ⟨csem, csem_injective⟩))).trans ?_
  rw [bigSep_map]
  refine BIBase.Entails.trans (Entails.of_eq (bigSep_congr fun i _ => congrArg cred (launch_at (c, i)))) ?_
  rw [bigSep_cells, show (fun p => cred (tallyAt (kcell (c, some p)) () (due (c, some p) * amt (c, some p).2)))
      = fun p : Fin 7 × Fin 8 => (cred (tallyAt (kcell (c, some (p.1, p.2))) () (due (c, some (p.1, p.2)) * N p.1 p.2)) : sProp 𝕄) from rfl,
    bigSep_sevens fun f k => (cred (tallyAt (kcell (c, some (f, k))) () (due (c, some (f, k)) * N f k)) : sProp 𝕄)]
  iintro ⟨Hb, -, -, H2, -, H4, -⟩
  isplitl [Hb]
  · iapply (Entails.of_eq (show (cred (tallyAt (kcell (c, none)) () (due (c, none) * amt none)) : sProp 𝕄) = cred (tallyAt (kcell (c, none)) () 2) by
      rw [due_bar]; rfl))
    iexact Hb
  isplitl [H2]
  · iapply (Entails.of_eq (bigSep_congr fun k _ => show (cred (tallyAt (kcell (c, some (2, k))) () (due (c, some (2, k)) * N 2 k)) : sProp 𝕄) = credit c 2 k by
      rw [due_X, Nat.one_mul]))
    iexact H2
  · iapply (Entails.of_eq (bigSep_congr fun k _ => show (cred (tallyAt (kcell (c, some (4, k))) () (due (c, some (4, k)) * N 4 k)) : sProp 𝕄) = credit c 4 k by
      rw [due_Y, Nat.one_mul]))
    iexact H4

end Cert.KernelIdeal.Chunked

end
-- ==== Proof.Run.lean ====
/- The RUN of @main on the four devices, from any memory and for any float values: it ends, the arguments are as they
   were, the result is what the sums make it, every semaphore is at zero. -/
module

public import proofs.«01_k».proof.Proof.Launch

@[expose] public section

noncomputable section

namespace Cert.KernelIdeal.Chunked

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's one point -/

/-- Before the point: the protocol's records, a device's rights, its two unstaged arrays and its scratch. -/
def held (c : Dev nD) : sProp 𝕄 := iprop((∃ K, ctx m K) ∗ rights c ∗ own c aDy (dyv m c) ∗ some_ c aOut)
def Φ₀ (c : Dev nD) : sProp 𝕄 := iprop(held m c ∗ scratches c)
/-- After it: the cells closed, `dy` as it was, the result summed. -/
def left (c : Dev nD) : sProp 𝕄 := iprop(own c aDy (dyv m c) ∗ ∃ X, ⌜IsOut m c X⌝ ∗ own c aOut X)
def Φ₁ (c : Dev nD) : sProp 𝕄 := iprop(semVal (kcell (c, none)) 0 ∗ sevens (fun f k => zero c f k) ∗ left m c ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => owed (debts c)
    | ⟨_ + 1, _⟩ => 0

theorem share_eq (c : Dev nD) (w : Fin cfg0.W) : (dats m ρ 0 c).share w = fullShare := by unfold Dat.share; split <;> rfl

/-! ## The body at the point -/

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  show _ ⊢ WP c (bodyAt0 t0_0) _
  show iprop(Φ₀ m c ∗ (dats m ρ 0 c).owesAt () t0_0.castSucc ∗ (∃ d, own c aX ((dats m ρ 0 c).before (0 : Fin 1) t0_0 d)))
    ⊢ WP c (cc0_body (F := F) aX (Memref.isWhole_whole _) aDy (Memref.isWhole_whole _) aOut (Memref.isWhole_whole _) aDyf (Memref.isWhole_whole _)
      aDyh (Memref.isWhole_whole _) aXs (Memref.isWhole_whole _) aXr (Memref.isWhole_whole _) aYs (Memref.isWhole_whole _)
      aYr (Memref.isWhole_whole _) cc0_scratch6 cc0_scratch7 cc0_scratch8 cc0_scratch9 cc0_scratch10 cc0_scratch11 cc0_scratch12)
      fun _ => iprop(Φ₁ m c ∗ (dats m ρ 0 c).owesAt () t0_0.succ ∗ own c aX (xstg m c))
  rw [body_eq aX (Memref.isWhole_whole _)]
  unfold WP
  simp only [wp_deviceId]
  unfold Φ₀ held
  iintro ⟨⟨⟨⟨%K, #Hc⟩, Hr, Hdy, Hout⟩, Hs⟩, HO, %d, Hx⟩
  iapply (wp_device (m := m) (K := K) c) $$ [Hr Hdy Hout Hs HO Hx]
  · isplitr; · iexact Hc
    unfold bodyStart
    isplitl [Hx]
    · iapply (Entails.of_eq (show own c aX ((dats m ρ 0 c).before (0 : Fin 1) t0_0 d) = own c aX (xstg m c) from by
        unfold Dat.before; rw [if_pos (fetch0_0 t0_0)]; rfl))
      iexact Hx
    isplitl [HO]
    · unfold Dat.owesAt Pipeline.owesWithin owesX
      icases HO with ⟨%W, -, HO⟩
      iexists W; iexact HO
    isplitl [Hr]; · iexact Hr
    isplitl [Hdy]; · iexact Hdy
    isplitl [Hout]; · iexact Hout
    iexact Hs
  iintro H
  unfold bodyEnd Φ₁ left
  icases H with ⟨Hx, HO, Hb, Hz, Hdy, Hout, Hs⟩
  isplitl [Hb Hz Hdy Hout Hs]
  · isplitl [Hb]; · iexact Hb
    isplitl [Hz]; · iexact Hz
    isplitl [Hdy Hout]
    · isplitl [Hdy] <;> iassumption
    iexact Hs
  isplitl [HO]
  · unfold Dat.owesAt Pipeline.owesWithin owesX
    icases HO with ⟨%W, HO⟩
    iexists W
    isplitr; · ipureintro; exact fun _ _ => Or.inl trivial
    iexact HO
  iexact Hx

/-! ## The launch's side conditions -/

theorem scratches_eq (c : Dev nD) : (Pipeline.scopedRest spec0 c : sProp 𝕄) = scratches c := by
  rw [scopedRest0_eq]
  unfold scratches some_
  simp only [owns_whole]
  rfl

theorem bigSep_duties (Φ : TI → sProp 𝕄) :
    bigSep Finset.univ Φ = iprop((Φ (.inl true) ∗ Φ (.inl false)) ∗ bigSep Finset.univ fun p => Φ (.inr p)) := by
  rw [bigSep_univ_sum, bigSep_univ_eq_bigSepL (I := Bool) [true, false] (by decide) (by decide)]
  rfl

theorem rights_intro (c : Dev nD) :
    iprop((bigSep Finset.univ fun i : CI => atPos ER (kcell (c, i)) 0 ∅ 0) ∗ (bigSep Finset.univ fun t => tokAt (who t c, t))
        ∗ cred (tallyAt (kcell (c, none)) () 2) ∗ all (fun k => credit c 2 k) ∗ all (fun k => credit c 4 k))
      ⊢ (rights c : sProp 𝕄) := by
  rw [bigSep_cells, bigSep_duties]
  unfold rights
  iintro ⟨⟨Hat, Hp⟩, ⟨⟨Htx, Hty⟩, Ht⟩, Hb, H2, H4⟩
  isplitl [Hat]; · iexact Hat
  isplitl [Hb]; · iexact Hb
  isplitl [Htx]; · iexact Htx
  isplitl [Hty]; · iexact Hty
  isplitl [Hp]; · iapply (Entails.of_eq (bigSep_sevens fun f k => (pos c f k : sProp 𝕄))); iexact Hp
  isplitl [Ht]; · iapply (Entails.of_eq (bigSep_sevens fun f k => (tok (peer f c) f k : sProp 𝕄))); iexact Ht
  isplitl [H2] <;> iassumption

theorem start_intro (c : Dev nD) :
    iprop(Pipeline.unscopedRestP Pipeline.Prefetch.none spec0 c (fun b => m ((c : Thread nD τ).loc b)) ∗ levAts L lv
        ∗ Pipeline.launchCred (fun d => owed (debts d)) c ∗ prngReg c (ρ c) ∗ G' m c)
      ⊢ |={Set.univ}=> iprop(held m c ∗ emp) := by
  rw [Pipeline.unscopedRestP_none, unscopedRest0_eq]
  unfold G'
  iintro ⟨⟨Hdy, Hout⟩, Hlev, Hcr, -, %K, Hrec, Hat, Htok⟩
  ihave Hc := (creds (F := F) c) $$ Hcr
  icases Hc with ⟨Hb, H2, H4⟩
  imodintro
  isplitl
  · unfold held
    isplitl [Hrec Hlev]
    · iexists K
      unfold ctx
      isplitl [Hrec] <;> iassumption
    isplitl [Hat Htok Hb H2 H4]
    · iapply (rights_intro (F := F) c)
      isplitl [Hat]; · iexact Hat
      isplitl [Htok]; · iexact Htok
      isplitl [Hb]; · iexact Hb
      isplitl [H2] <;> iassumption
    isplitl [Hdy]
    · iapply (Entails.of_eq (owns_whole (c : Thread nD τ) main_arg1 fullShare (m ((c : Thread nD τ).loc main_arg1))).symm); iexact Hdy
    iexists (m ((c : Thread nD τ).loc main_v1))
    iapply (Entails.of_eq (owns_whole (c : Thread nD τ) main_v1 fullShare (m ((c : Thread nD τ).loc main_v1))).symm); iexact Hout
  · iempintro

theorem phi0_intro (c : Dev nD) :
    iprop(held m c ∗ Pipeline.prefHeld Pipeline.Prefetch.none c (fun _ => fullShare.right) (fun k => k.elim0) ∗ Pipeline.scopedRest spec0 c)
      ⊢ (dats m ρ 0 c).Φ 0 := by
  rw [show (dats m ρ 0 c).Φ 0 = Φ₀ m c from rfl, scratches_eq]
  unfold Φ₀
  iintro ⟨Hh, -, Hs⟩
  isplitl [Hh] <;> iassumption

theorem phi1_exit (c : Dev nD) :
    (dats m ρ 0 c).Φ (Fin.last cfg0.N) ⊢ iprop((unscopedSems0 c ∗ left m c) ∗ Pipeline.ownSems0 osem c ∗ Pipeline.scopedRest spec0 c) := by
  rw [show (dats m ρ 0 c).Φ (Fin.last cfg0.N) = Φ₁ m c from rfl, scratches_eq, ownSems0_eq, unscopedSems0_eq]
  unfold Φ₁
  iintro ⟨Hb, Hz, Hl, Hs⟩
  isplitl [Hb Hl]
  · isplitl [Hb] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have h0 : clv (dec (.dma (((cfgs 0).win w).sem s))) = 0 := by fin_cases w; fin_cases s; rfl
    rcases t with ⟨_ | _, ht⟩
    · exact mayWait c _ (debts c) fun x hx => by rw [h0]; exact lv_debts c x hx
    · exact mayWait c _ [] fun x hx => absurd hx List.not_mem_nil

/-! ## The run -/

/-- What the run leaves: on every device the arguments as they were and the result summed. -/
def Final (mem : (ℓ : Loc nD τ sig) → Buf (Elt F) ℓ) : Prop := ∀ c : Dev nD,
  mem ((c : Thread nD τ).loc main_arg0) = m ((c : Thread nD τ).loc main_arg0)
    ∧ mem ((c : Thread nD τ).loc main_arg1) = m ((c : Thread nD τ).loc main_arg1)
    ∧ IsOut m c (mem ((c : Thread nD τ).loc main_v1))

/-- What is left, read off the final state. -/
theorem left_read (c : Dev nD) (s' : Phys nD τ sig (Elt F)) :
    iprop((unscopedSems0 c ∗ left m c) ∗ emp ∗ SI s')
      ⊢ (|={Set.univ}=> iprop(⌜(∀ sm : SemLoc sig, sm.isScoped .tc = false → s'.mem.sem ((c : Thread nD τ), sm) = 0)
          ∧ s'.mem.mem ((c : Thread nD τ).loc main_arg1) = m ((c : Thread nD τ).loc main_arg1)
          ∧ IsOut m c (s'.mem.mem ((c : Thread nD τ).loc main_v1))⌝ ∗ SI s') : sProp 𝕄) := by
  unfold left
  simp only [owns_whole]
  iintro ⟨⟨Hu, Hdy, %X, %hX, Hout⟩, -, HSI⟩
  icombine HSI Hdy gives %h1
  icombine HSI Hout gives %h2
  imod (Pipeline.unscopedSems0_read (X := unscopedSems0 c) (c := c) fupd_intro s') $$ [Hu HSI] with ⟨%hs, HSI⟩
  · isplitl [Hu] <;> iassumption
  imodintro
  isplitr
  · ipureintro
    refine ⟨hs, Buf.eq_of_forall_mem_univ h1, ?_⟩
    rw [Buf.eq_of_forall_mem_univ h2]
    exact hX
  iexact HSI

set_option maxRecDepth 100000 in
/-- At the compiled mesh of four devices, for any float values, from any memory with zero counters: every weakly fair
    execution of @main ends, and every final state is as said, with every semaphore at zero. -/
theorem run_main : θ_run defs (onTc (τ := τ) (main (F := F))) (s₀ m ρ) (fun r => Final m r.2.mem ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := fun d => owed (debts d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_launch m) $$ HX with HG
      imodintro
      isplitl [HP] <;> iassumption)
    (hglob := glob m)
    (hA := fun _ _ => rfl) (hpf := fun _ k => k.elim0)
    (X := held m) (Y := fun c => iprop(unscopedSems0 c ∗ left m c)) (Z := fun _ => iprop(emp))
    (hX := start_intro m ρ) (hin := phi0_intro m ρ) (hout := phi1_exit m ρ)
    (QY := fun c s => (∀ sm : SemLoc sig, sm.isScoped .tc = false → s.sem ((c : Thread nD τ), sm) = 0)
      ∧ s.mem ((c : Thread nD τ).loc main_arg1) = m ((c : Thread nD τ).loc main_arg1)
      ∧ IsOut m c (s.mem ((c : Thread nD τ).loc main_v1)))
    (hY := left_read m)
    (hQ := fun _ h hs => ⟨fun c => ⟨((h c).1 0).trans ((dats (F := F) m ρ 0 c).arrAt_in (0 : Fin 1) rfl _), (h c).2.2.2.1, (h c).2.2.2.2⟩,
      sem_eq_zero hs fun c => (h c).2.2.1⟩)

/-- The same with the result dropped. -/
theorem run_frame : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1, (h.1 c).2.1⟩, h.2⟩) (run_main m ρ)

end Cert.KernelIdeal.Chunked

end
-- ==== Proof.Values.lean ====
/- The VALUES at the ideal instance: a sum sent to the result is the whole contraction over the 2048 rows, so the
   result of the four devices is the reference's, block by block. -/
module

public import proofs.«01_k».proof.Proof.Run
public import proofs.«01_k».proof.Proof.Gen.ReferenceIdeal.Run
public import Idealize.ShloMosaic.PureOps.Ideal.Laws
public import Idealize.ShloMosaic.Lib.ValueIdxCore
public import Idealize.ShloMosaic.Lib.StackMember
public import Idealize.ShloMosaic.Lib.Pipeline.Value
public import Idealize.ShloMosaic.Lib.Layout

@[expose] public section

noncomputable section

namespace Cert.KernelIdeal.Chunked

open Cert.KernelIdeal Cert.KernelIdeal.Gen
open Idealize.ShloMosaic
open Idealize.ShloMosaic.TcCoe
open Idealize.ShloMosaic.ValueIdx
open scoped BigOperators

/-! ## A product contracted over the rows of both operands -/

section Contraction

variable {K M N : ℕ} (w : DotDims.WF ⟨2, ![K, M]⟩ ⟨2, ![K, N]⟩ ⟨2, ![M, N]⟩ [0] [0] [1] [1] [] [])

/-- The dimension numbers of `lhsᵀ · rhs`. -/
abbrev rowsDot : DotDims ⟨2, ![K, M]⟩ ⟨2, ![K, N]⟩ ⟨2, ![M, N]⟩ := ⟨[0], [0], [1], [1], [], [], w⟩

/-- Into the zero accumulator, read at an index: the sum over the rows. -/
theorem rowsDot_apply {φ₁ φ₂ : FTy} (A : FVec Ideal ⟨2, ![K, M]⟩ φ₁) (B : FVec Ideal ⟨2, ![K, N]⟩ φ₂)
    (i : Fin M) (n : Fin N) :
    matmul (rowsDot w) none A B (constant ⟨2, ![M, N]⟩ .f32 0x00000000#32) (ix2 i n)
      = ∑ r : Fin K, A (ix2 r i) * B (ix2 r n) := by
  refine (Ideal.matmul_constant_zero_apply (rowsDot w) none A B (ix2 i n)).trans ?_
  rw [← Equiv.sum_comp (contrEquiv1 (rowsDot w) K rfl rfl).symm]
  refine Finset.sum_congr rfl fun r _ => ?_
  have hr := contrEquiv1_symm_val (rowsDot w) K rfl rfl r
  have hl : (rowsDot w).lhsIdx (ix2 i n) ((contrEquiv1 (rowsDot w) K rfl rfl).symm r) = ix2 r i := by
    funext a; apply Fin.ext
    match a with
    | ⟨0, _⟩ => exact hr
    | ⟨1, _⟩ => rfl
  have hR : (rowsDot w).rhsIdx (ix2 i n) ((contrEquiv1 (rowsDot w) K rfl rfl).symm r) = ix2 r n := by
    funext a; apply Fin.ext
    match a with
    | ⟨0, _⟩ => exact hr
    | ⟨1, _⟩ => rfl
  rw [hl, hR]

end Contraction

/-! ## A device's partial products -/

section Parts

variable (m : (ℓ : Loc nD τ sig) → Buf (Elt Ideal) ℓ)

/-- A device's block of `x`. -/
def xv (c : Dev nD) : S1024x1024.Idx → Elt Ideal .f32 := m ((c : Thread nD τ).loc main_arg0)

/-- The staged block is the block. -/
theorem xstg_eq (c : Dev nD) : xstg m c = xv m c :=
  Memref.read_access_unit_zero (Elt Ideal) main_arg0 (funext fun a => Nat.zero_mul _) _ _

/-- The product over a device's 1024 rows of column `i` of `x` and column `n` of `dy`. -/
def part (c : Dev nD) (i : Fin 1024) (n : Fin 4096) : EReal :=
  ∑ r : Fin 1024, (xv m c (ix2 r i) : EReal) * (dyv m c (ix2 r n) : EReal)

theorem xb_apply (c : Dev nD) (r : Fin 1024) (j : Fin 256) (i : Fin 1024) (hi : i.val = k0_off1 c 1 + j.val) :
    xb m c (ix2 r j) = xv m c (ix2 r i) := by
  unfold xb k0_pay1
  simp only [shapeCast_self, xstg_eq]
  show xv m c _ = _
  refine congrArg (xv m c) (funext fun a => Fin.ext ?_)
  match a with
  | ⟨0, _⟩ => exact (Nat.zero_add _).trans (Nat.one_mul _)
  | ⟨1, _⟩ => exact (congrArg (k0_off1 c 1 + ·) (Nat.one_mul _)).trans hi.symm

theorem xa_apply (c : Dev nD) (r : Fin 1024) (j : Fin 256) (i : Fin 1024) (hi : i.val = k0_off2 c 1 + j.val) :
    xa m c (ix2 r j) = xv m c (ix2 r i) := by
  unfold xa k0_pay2
  simp only [shapeCast_self, xstg_eq]
  show xv m c _ = _
  refine congrArg (xv m c) (funext fun a => Fin.ext ?_)
  match a with
  | ⟨0, _⟩ => exact (Nat.zero_add _).trans (Nat.one_mul _)
  | ⟨1, _⟩ => exact (congrArg (k0_off2 c 1 + ·) (Nat.one_mul _)).trans hi.symm

theorem DYhc_apply (c : Dev nD) (k : Fin 8) (r : Fin 1024) (j : Fin (wd k)) (n : Fin 4096) (hn : n.val = off k + j.val) :
    DYhc m c k (ix2 r j) = dyv m c (ix2 r n) := by
  show dyv m c _ = _
  refine congrArg (dyv m c) (funext fun a => Fin.ext ?_)
  match a with
  | ⟨0, _⟩ => exact (Nat.zero_add _).trans (Nat.one_mul _)
  | ⟨1, _⟩ => exact (congrArg (off k + ·) (Nat.one_mul _)).trans hn.symm

/-- What is sent across. -/
theorem XS_apply (c : Dev nD) (k : Fin 8) (j : Fin 256) (l : Fin (wd k)) (i : Fin 1024) (n : Fin 4096)
    (hi : i.val = k0_off1 c 1 + j.val) (hn : n.val = off k + l.val) : XS m c k (ix2 j l) = part m c i n := by
  unfold XS payX
  rw [shapeCast_self]
  refine (rowsDot_apply (φ₂ := .bf16) (dotX_wf k) _ _ j l).trans (Finset.sum_congr rfl fun r _ => ?_)
  rw [xb_apply m c r j i hi, DYhc_apply m c k r l n hn]

/-- What is kept. -/
theorem AA_apply (c : Dev nD) (j : Fin 256) (i : Fin 1024) (n : Fin 4096) (hi : i.val = k0_off2 c 1 + j.val) :
    AA m c (ix2 j n) = part m c i n := by
  unfold AA k0_pay20
  refine (rowsDot_apply (φ₂ := .bf16) dot_S1024x256_S1024x4096_S256x4096_0_0_1_1_n_n_wf _ _ j n).trans
    (Finset.sum_congr rfl fun r _ => ?_)
  rw [xa_apply m c r j i hi]
  rfl

/-- Both concern the block of columns numbered as the device that sums them. -/
theorem off2_val (c : Dev nD) : k0_off2 c 1 = c.val * 256 := by revert c; decide
theorem off1_xp_val (c : Dev nD) : k0_off1 (xp c) 1 = c.val * 256 := by revert c; decide

/-- The sum. -/
theorem YS_apply (c : Dev nD) (k : Fin 8) (j : Fin 256) (l : Fin (wd k)) (i : Fin 1024) (n : Fin 4096)
    (hi : i.val = c.val * 256 + j.val) (hn : n.val = off k + l.val) :
    YS m c k (ix2 j l) = part m c i n + part m (xp c) i n := by
  unfold YS payY
  rw [shapeCast_self]
  rw [← AA_apply m c j i n (by rw [off2_val]; exact hi),
    ← XS_apply m (xp c) k j l i n (by rw [off1_xp_val]; exact hi) hn]
  have hs : extractStridedSlice (SX k) ![0, off k] (AA m c) (slicesX k) (ix2 j l) = AA m c (ix2 j n) := by
    unfold extractStridedSlice
    refine congrArg (AA m c) (funext fun a => Fin.ext ?_)
    match a with
    | ⟨0, _⟩ => exact Nat.zero_add _
    | ⟨1, _⟩ => exact hn.symm
  rw [← hs]
  rfl

end Parts

/-! ## The whole product -/

section Whole

variable (x : FVec Ideal ⟨2, ![2048, 1024]⟩ .f32) (dy : FVec Ideal ⟨2, ![2048, 4096]⟩ .f32)

/-- The reference's result. -/
def whole : FVec Ideal ⟨2, ![1024, 4096]⟩ .bf16 :=
  truncf .bf16 (Host.dotGeneral Cert.ReferenceIdeal.dot_S1024x2048_S2048x4096_S1024x4096_1_0_0_1_n_n none
    (transpose Cert.ReferenceIdeal.S1024x2048 [1, 0] x Cert.ReferenceIdeal.Gen.transposes_S2048x1024_S1024x2048_1_0) dy)
    Cert.ReferenceIdeal.Gen.bitsLt_bf16_f32

/-- The part of it over one half of the rows. -/
def half (h : Fin 2) (i : Fin 1024) (n : Fin 4096) : EReal :=
  ∑ r : Fin 1024, (x (ix2 ⟨h.val * 1024 + r.val, by omega⟩ i) : EReal) * (dy (ix2 ⟨h.val * 1024 + r.val, by omega⟩ n) : EReal)

/-- The whole is the two halves. -/
theorem whole_apply (i : Fin 1024) (n : Fin 4096) : whole x dy (ix2 i n) = half x dy 0 i n + half x dy 1 i n := by
  refine (StackMember.dotGeneral_plain_apply none _ dy i n).trans ?_
  refine (Finset.sum_congr rfl fun r _ => congrArg (· * dy (ix2 r n))
    (transpose_apply [1, 0] x _ (ix2 i r) (ix2 r i) fun b => by fin_cases b <;> rfl)).trans ?_
  refine (Fin.sum_univ_add (a := 1024) (b := 1024) fun r => (x (ix2 r i) : EReal) * (dy (ix2 r n) : EReal)).trans ?_
  refine congrArg₂ (· + ·) (Finset.sum_congr rfl fun r _ => ?_) (Finset.sum_congr rfl fun r _ => ?_)
  · have h : (Fin.castAdd 1024 r : Fin 2048) = ⟨(0 : Fin 2).val * 1024 + r.val, by omega⟩ :=
      Fin.ext (by show r.val = 0 * 1024 + r.val; omega)
    rw [h]
  · have h : (Fin.natAdd 1024 r : Fin 2048) = ⟨(1 : Fin 2).val * 1024 + r.val, by omega⟩ :=
      Fin.ext (by show 1024 + r.val = 1 * 1024 + r.val; omega)
    rw [h]

end Whole

/-! ## Blocks of rows -/

/-- The half of the rows a device holds. -/
def row (c : Dev nD) : Fin 2 := ⟨c.val / 2, by have : c.val < 4 := c.2; omega⟩

theorem row_cases (c : Dev nD) : (row c = 0 ∧ row (xp c) = 1) ∨ (row c = 1 ∧ row (xp c) = 0) := by revert c; decide
theorem meshLin_row (c : Dev nD) : Layout.meshLin [2, 2] c.val [0] = c.val / 2 := by revert c; decide

/-- A device's own rows of its result, and the others, as columns of `x`. -/
theorem own_rows (c : Dev nD) : c.val / 2 * 512 + c.val % 2 * 256 = c.val * 256 := by omega
theorem other_rows (c : Dev nD) : c.val / 2 * 512 + (1 - c.val % 2) * 256 = (yp c).val * 256 := by
  show _ = (c.val / 2 * 2 + (1 - c.val % 2)) * 256
  omega

/-- A device's block of an array cut by rows in two, read at an index. -/
theorem block_apply {α : Type} {a b A : ℕ} (c : Dev nD) (v : (⟨2, ![A, b]⟩ : Shape).Idx → α)
    (h : Layout.TilesN ⟨2, ![a, b]⟩ ⟨2, ![A, b]⟩ fun d => Layout.cutSize [2, 2] ((![[0], []] : Fin 2 → List ℕ) d))
    (r : Fin a) (n : Fin b) (R : Fin A) (hR : R.val = c.val / 2 * a + r.val) :
    Layout.blockN ⟨2, ![a, b]⟩ ⟨2, ![A, b]⟩ (Layout.meshBlock [2, 2] ![[0], []] c) v h (ix2 r n) = v (ix2 R n) := by
  rw [Layout.blockN_apply]
  refine congrArg v (funext fun d => Fin.ext ?_)
  rw [Layout.TilesN.idx_val]
  match d with
  | ⟨0, _⟩ =>
    show Layout.meshLin [2, 2] c.val [0] * a + r.val = R.val
    rw [meshLin_row, hR]
  | ⟨1, _⟩ =>
    show Layout.meshLin [2, 2] c.val [] * b + n.val = n.val
    exact (congrArg (· + n.val) (Nat.zero_mul b)).trans (Nat.zero_add _)

section Value

set_option backward.proofsInPublic true

variable (m : (ℓ : Loc nD τ sig) → Buf (Elt Ideal) ℓ)
variable (x : FVec Ideal ⟨2, ![2048, 1024]⟩ .f32) (dy : FVec Ideal ⟨2, ![2048, 4096]⟩ .f32)
variable (hx : ∀ c, xv m c = Layout.blockN ⟨2, ![1024, 1024]⟩ ⟨2, ![2048, 1024]⟩ (Layout.meshBlock [2, 2] ![[0], []] c) x)
variable (hdy : ∀ c, dyv m c = Layout.blockN ⟨2, ![1024, 4096]⟩ ⟨2, ![2048, 4096]⟩ (Layout.meshBlock [2, 2] ![[0], []] c) dy)

include hx hdy

theorem part_eq (c : Dev nD) (i : Fin 1024) (n : Fin 4096) : part m c i n = half x dy (row c) i n := by
  refine Finset.sum_congr rfl fun r _ => ?_
  rw [hx c, hdy c, block_apply c x _ r i ⟨(row c).val * 1024 + r.val, by omega⟩ rfl,
    block_apply c dy _ r n ⟨(row c).val * 1024 + r.val, by omega⟩ rfl]

/-- A device's part and its column neighbour's are the whole, in whichever order. -/
theorem parts_eq (c : Dev nD) (i : Fin 1024) (n : Fin 4096) : part m c i n + part m (xp c) i n = whole x dy (ix2 i n) := by
  rw [part_eq m x dy hx hdy, part_eq m x dy hx hdy, whole_apply]
  rcases row_cases c with ⟨h, h'⟩ | ⟨h, h'⟩ <;> rw [h, h']
  exact add_comm _ _

/-- Chunk `k` of the sum of device `d`, written at row `o` of the result of device `c`, is the reference's. -/
theorem chunk_eq (c d : Dev nD) (k : Fin 8) (o : ℕ) (ho : c.val / 2 * 512 + o = d.val * 256) (ix : S512x4096.Idx)
    (j : (SX k).Idx) (h0 : (ix 0).val = o + (j 0).val) (h1 : (ix 1).val = off k + (j 1).val) :
    YS m d k j = (Layout.blockN ⟨2, ![512, 4096]⟩ ⟨2, ![1024, 4096]⟩ (Layout.meshBlock [2, 2] ![[0], []] c) (whole x dy) :
      S512x4096.Idx → Elt Ideal .bf16) ix := by
  have hc : c.val < 4 := c.2
  have hi : (ix 0).val < 512 := (ix 0).isLt
  have hI : c.val / 2 * 512 + (ix 0).val < 1024 := by omega
  refine Eq.trans ?_ ((congrArg _ (eq_ix2 (n0 := 512) (n1 := 4096) ix)).trans (block_apply c (whole x dy) _ (ix 0) (ix 1)
    ⟨c.val / 2 * 512 + (ix 0).val, hI⟩ rfl)).symm
  refine Eq.trans ?_ (parts_eq m x dy hx hdy d _ _)
  refine (congrArg (YS m d k) (eq_ix2 (n0 := 256) (n1 := wd k) j)).trans ?_
  exact YS_apply m d k (j 0) (j 1) _ _ (by show c.val / 2 * 512 + (ix 0).val = _; omega) h1

/-- The result of a device is its block of the reference's. -/
theorem out_eq (c : Dev nD) (X : S512x4096.Idx → Elt Ideal .bf16) (hX : IsOut m c X) :
    X = Layout.blockN ⟨2, ![512, 4096]⟩ ⟨2, ![1024, 4096]⟩ (Layout.meshBlock [2, 2] ![[0], []] c) (whole x dy) := by
  funext ix
  obtain ⟨t, -, ht⟩ := Finset.mem_biUnion.mp ((rOut_cover c).symm ▸ Finset.mem_univ ix)
  rw [← Rect.map_emb_univ] at ht
  obtain ⟨j, -, rfl⟩ := Finset.mem_map.mp ht
  cases t with
  | inl k =>
    refine (congrFun (hX.1 k) j).trans (chunk_eq m x dy hx hdy c c k _ (own_rows c) _ j ?_ ?_)
    · exact (congrArg₂ (· + ·) (congrFun (offO_eq c k) 0) (Nat.one_mul _))
    · exact (congrArg₂ (· + ·) (congrFun (offO_eq c k) 1) (Nat.one_mul _))
  | inr k =>
    refine (congrFun (hX.2 k) j).trans (chunk_eq m x dy hx hdy c (yp c) k _ (other_rows c) _ j ?_ ?_)
    · exact (congrArg₂ (· + ·) (congrFun (offT_eq c k) 0) (Nat.one_mul _))
    · exact (congrArg₂ (· + ·) (congrFun (offT_eq c k) 1) (Nat.one_mul _))

end Value

end Cert.KernelIdeal.Chunked

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The word-level program has the idealized one's text: the same bodies, -/
theorem defs₀_eq : Cert.Kernel.defs₀ (F := Bits) = Cert.KernelIdeal.defs₀ := by
  unfold Cert.Kernel.defs₀ Cert.KernelIdeal.defs₀
  refine congrArg Defs.onTc ?_
  funext l x
  obtain ⟨l, hl⟩ := l
  cases l with
  | zero => rfl
  | succ n => exact absurd hl (Nat.not_lt.2 (Nat.le_add_left _ _))

/-- the same table of them, -/
theorem defs_eq : Cert.Kernel.defs (F := Bits) = Cert.KernelIdeal.defs := by
  unfold Cert.Kernel.defs Cert.KernelIdeal.defs
  rw [defs₀_eq]
  rfl

/-- and so the same run, over the words. -/
theorem frame_kernel : Cert.quiescent_Kernel := fun m ρ _ => by
  rw [defs_eq]
  exact Cert.KernelIdeal.Chunked.run_frame (F := Bits) m ρ

theorem frame_ideal : Cert.quiescent_KernelIdeal := fun m ρ _ => Cert.KernelIdeal.Chunked.run_frame (F := Ideal) m ρ

/-- The reference is host operations alone, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The devices' results are the blocks of the reference's, their arguments being the blocks of its. -/
theorem algebraic : Cert.algebraic_KernelIdeal_ReferenceIdeal := fun m ρ m' ρ' _ h =>
  ⟨Cert.KernelIdeal.Chunked.whole (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ hr c => ⟨Cert.KernelIdeal.Chunked.out_eq m _ _ (fun c => (h c).1) (fun c => (h c).2) c _ (hr.1 c).2.2,
        (hr.1 c).1, (hr.1 c).2.1⟩)
      (Cert.KernelIdeal.Chunked.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts, frame_kernel, frame_ideal, frame_reference, trivial, algebraic⟩

end Cert.Proof

end
